-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 64]⟩ ⟨2, ![1024, 1024]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![64, 1024]⟩ ⟨2, ![1024, 1024]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v15) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x64 : Shape := ⟨2, ![1024, 64]⟩
abbrev S1024x1024 : Shape := ⟨2, ![1024, 1024]⟩
abbrev S64x1024 : Shape := ⟨2, ![64, 1024]⟩
abbrev S16 : Shape := ⟨1, ![16]⟩
abbrev S_ : Shape := ⟨0, ![]⟩
abbrev S1 : Shape := ⟨1, ![1]⟩
abbrev S64x64 : Shape := ⟨2, ![64, 64]⟩

abbrev nBuf : Space → Nat
  | .hbm => 3
  | .vmem => 6
  | .smem => 0
  | _ => 0

abbrev bufTy : (tb : Table) → Fin (tcTables nBuf tb) → BufTy
  | .hbm, ⟨0, _⟩ => ⟨S1024x64, .bf16⟩
  | .hbm, ⟨1, _⟩ => ⟨S1024x1024, .bf16⟩
  | .hbm, ⟨2, _⟩ => ⟨S64x1024, .f32⟩
  | .local _ .vmem, ⟨0, _⟩ => ⟨S1024x64, .bf16⟩
  | .local _ .vmem, ⟨1, _⟩ => ⟨S1024x1024, .bf16⟩
  | .local _ .vmem, ⟨2, _⟩ => ⟨S64x1024, .f32⟩
  | .local _ .vmem, ⟨3, _⟩ => ⟨S1024x64, .bf16⟩
  | .local _ .vmem, ⟨4, _⟩ => ⟨S1024x1024, .bf16⟩
  | .local _ .vmem, ⟨5, _⟩ => ⟨S1024x64, .bf16⟩
  | _, _ => ⟨S1024x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  (ofTc nBuf bufTy 1 35 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v9 : BitVec 1 := Scalar.cmpi .ne v2 c0_i32
  let v10 : BitVec 32 := Scalar.extui v9
  let c0_i32_3 : BitVec 32 := 0#32
  let v11 : BitVec 1 := Scalar.cmpi .ne v10 c0_i32_3
  v11

def k0_dev1 : Nat :=
  let c0_i32_517 : BitVec 32 := 0#32
  let c0_i32_515 : BitVec 32 := 0#32
  let c1_i32_516 : BitVec 32 := 1#32
  let v668 : BitVec 32 := Scalar.muli c0_i32_515 c1_i32_516
  let v669 : BitVec 32 := Scalar.addi c0_i32_517 v668
  v669.toNat
def k0_cond2 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_4 : BitVec 32 := 1#32
  let v12 : BitVec 1 := Scalar.cmpi .ne v2 c1_i32_4
  let v13 : BitVec 32 := Scalar.extui v12
  let c0_i32_5 : BitVec 32 := 0#32
  let v14 : BitVec 1 := Scalar.cmpi .ne v13 c0_i32_5
  v14

def k0_dev2 : Nat :=
  let c0_i32_517 : BitVec 32 := 0#32
  let c1_i32_515 : BitVec 32 := 1#32
  let c1_i32_516 : BitVec 32 := 1#32
  let v668 : BitVec 32 := Scalar.muli c1_i32_515 c1_i32_516
  let v669 : BitVec 32 := Scalar.addi c0_i32_517 v668
  v669.toNat
def k0_cond3 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v15 : BitVec 1 := Scalar.cmpi .ne v2 c2_i32
  let v16 : BitVec 32 := Scalar.extui v15
  let c0_i32_6 : BitVec 32 := 0#32
  let v17 : BitVec 1 := Scalar.cmpi .ne v16 c0_i32_6
  v17

def k0_dev3 : Nat :=
  let c0_i32_517 : BitVec 32 := 0#32
  let c2_i32_515 : BitVec 32 := 2#32
  let c1_i32_516 : BitVec 32 := 1#32
  let v668 : BitVec 32 := Scalar.muli c2_i32_515 c1_i32_516
  let v669 : BitVec 32 := Scalar.addi c0_i32_517 v668
  v669.toNat
def k0_cond4 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v18 : BitVec 1 := Scalar.cmpi .ne v2 c3_i32
  let v19 : BitVec 32 := Scalar.extui v18
  let c0_i32_7 : BitVec 32 := 0#32
  let v20 : BitVec 1 := Scalar.cmpi .ne v19 c0_i32_7
  v20

def k0_dev4 : Nat :=
  let c0_i32_517 : BitVec 32 := 0#32
  let c3_i32_515 : BitVec 32 := 3#32
  let c1_i32_516 : BitVec 32 := 1#32
  let v668 : BitVec 32 := Scalar.muli c3_i32_515 c1_i32_516
  let v669 : BitVec 32 := Scalar.addi c0_i32_517 v668
  v669.toNat
def k0_cond5 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v21 : BitVec 1 := Scalar.cmpi .ne v2 c4_i32
  let v22 : BitVec 32 := Scalar.extui v21
  let c0_i32_8 : BitVec 32 := 0#32
  let v23 : BitVec 1 := Scalar.cmpi .ne v22 c0_i32_8
  v23

def k0_dev5 : Nat :=
  let c0_i32_517 : BitVec 32 := 0#32
  let c4_i32_515 : BitVec 32 := 4#32
  let c1_i32_516 : BitVec 32 := 1#32
  let v668 : BitVec 32 := Scalar.muli c4_i32_515 c1_i32_516
  let v669 : BitVec 32 := Scalar.addi c0_i32_517 v668
  v669.toNat
def k0_cond6 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v24 : BitVec 1 := Scalar.cmpi .ne v2 c5_i32
  let v25 : BitVec 32 := Scalar.extui v24
  let c0_i32_9 : BitVec 32 := 0#32
  let v26 : BitVec 1 := Scalar.cmpi .ne v25 c0_i32_9
  v26

def k0_dev6 : Nat :=
  let c0_i32_517 : BitVec 32 := 0#32
  let c5_i32_515 : BitVec 32 := 5#32
  let c1_i32_516 : BitVec 32 := 1#32
  let v668 : BitVec 32 := Scalar.muli c5_i32_515 c1_i32_516
  let v669 : BitVec 32 := Scalar.addi c0_i32_517 v668
  v669.toNat
def k0_cond7 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v27 : BitVec 1 := Scalar.cmpi .ne v2 c6_i32
  let v28 : BitVec 32 := Scalar.extui v27
  let c0_i32_10 : BitVec 32 := 0#32
  let v29 : BitVec 1 := Scalar.cmpi .ne v28 c0_i32_10
  v29

def k0_dev7 : Nat :=
  let c0_i32_517 : BitVec 32 := 0#32
  let c6_i32_515 : BitVec 32 := 6#32
  let c1_i32_516 : BitVec 32 := 1#32
  let v668 : BitVec 32 := Scalar.muli c6_i32_515 c1_i32_516
  let v669 : BitVec 32 := Scalar.addi c0_i32_517 v668
  v669.toNat
def k0_cond8 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v30 : BitVec 1 := Scalar.cmpi .ne v2 c7_i32
  let v31 : BitVec 32 := Scalar.extui v30
  let c0_i32_11 : BitVec 32 := 0#32
  let v32 : BitVec 1 := Scalar.cmpi .ne v31 c0_i32_11
  v32

def k0_dev8 : Nat :=
  let c0_i32_517 : BitVec 32 := 0#32
  let c7_i32_515 : BitVec 32 := 7#32
  let c1_i32_516 : BitVec 32 := 1#32
  let v668 : BitVec 32 := Scalar.muli c7_i32_515 c1_i32_516
  let v669 : BitVec 32 := Scalar.addi c0_i32_517 v668
  v669.toNat
def k0_cond9 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v33 : BitVec 1 := Scalar.cmpi .ne v2 c8_i32
  let v34 : BitVec 32 := Scalar.extui v33
  let c0_i32_12 : BitVec 32 := 0#32
  let v35 : BitVec 1 := Scalar.cmpi .ne v34 c0_i32_12
  v35

def k0_dev9 : Nat :=
  let c0_i32_517 : BitVec 32 := 0#32
  let c8_i32_515 : BitVec 32 := 8#32
  let c1_i32_516 : BitVec 32 := 1#32
  let v668 : BitVec 32 := Scalar.muli c8_i32_515 c1_i32_516
  let v669 : BitVec 32 := Scalar.addi c0_i32_517 v668
  v669.toNat
def k0_cond10 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v36 : BitVec 1 := Scalar.cmpi .ne v2 c9_i32
  let v37 : BitVec 32 := Scalar.extui v36
  let c0_i32_13 : BitVec 32 := 0#32
  let v38 : BitVec 1 := Scalar.cmpi .ne v37 c0_i32_13
  v38

def k0_dev10 : Nat :=
  let c0_i32_517 : BitVec 32 := 0#32
  let c9_i32_515 : BitVec 32 := 9#32
  let c1_i32_516 : BitVec 32 := 1#32
  let v668 : BitVec 32 := Scalar.muli c9_i32_515 c1_i32_516
  let v669 : BitVec 32 := Scalar.addi c0_i32_517 v668
  v669.toNat
def k0_cond11 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v39 : BitVec 1 := Scalar.cmpi .ne v2 c10_i32
  let v40 : BitVec 32 := Scalar.extui v39
  let c0_i32_14 : BitVec 32 := 0#32
  let v41 : BitVec 1 := Scalar.cmpi .ne v40 c0_i32_14
  v41

def k0_dev11 : Nat :=
  let c0_i32_517 : BitVec 32 := 0#32
  let c10_i32_515 : BitVec 32 := 10#32
  let c1_i32_516 : BitVec 32 := 1#32
  let v668 : BitVec 32 := Scalar.muli c10_i32_515 c1_i32_516
  let v669 : BitVec 32 := Scalar.addi c0_i32_517 v668
  v669.toNat
def k0_cond12 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v42 : BitVec 1 := Scalar.cmpi .ne v2 c11_i32
  let v43 : BitVec 32 := Scalar.extui v42
  let c0_i32_15 : BitVec 32 := 0#32
  let v44 : BitVec 1 := Scalar.cmpi .ne v43 c0_i32_15
  v44

def k0_dev12 : Nat :=
  let c0_i32_517 : BitVec 32 := 0#32
  let c11_i32_515 : BitVec 32 := 11#32
  let c1_i32_516 : BitVec 32 := 1#32
  let v668 : BitVec 32 := Scalar.muli c11_i32_515 c1_i32_516
  let v669 : BitVec 32 := Scalar.addi c0_i32_517 v668
  v669.toNat
def k0_cond13 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v45 : BitVec 1 := Scalar.cmpi .ne v2 c12_i32
  let v46 : BitVec 32 := Scalar.extui v45
  let c0_i32_16 : BitVec 32 := 0#32
  let v47 : BitVec 1 := Scalar.cmpi .ne v46 c0_i32_16
  v47

def k0_dev13 : Nat :=
  let c0_i32_517 : BitVec 32 := 0#32
  let c12_i32_515 : BitVec 32 := 12#32
  let c1_i32_516 : BitVec 32 := 1#32
  let v668 : BitVec 32 := Scalar.muli c12_i32_515 c1_i32_516
  let v669 : BitVec 32 := Scalar.addi c0_i32_517 v668
  v669.toNat
def k0_cond14 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v48 : BitVec 1 := Scalar.cmpi .ne v2 c13_i32
  let v49 : BitVec 32 := Scalar.extui v48
  let c0_i32_17 : BitVec 32 := 0#32
  let v50 : BitVec 1 := Scalar.cmpi .ne v49 c0_i32_17
  v50

def k0_dev14 : Nat :=
  let c0_i32_517 : BitVec 32 := 0#32
  let c13_i32_515 : BitVec 32 := 13#32
  let c1_i32_516 : BitVec 32 := 1#32
  let v668 : BitVec 32 := Scalar.muli c13_i32_515 c1_i32_516
  let v669 : BitVec 32 := Scalar.addi c0_i32_517 v668
  v669.toNat
def k0_cond15 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v51 : BitVec 1 := Scalar.cmpi .ne v2 c14_i32
  let v52 : BitVec 32 := Scalar.extui v51
  let c0_i32_18 : BitVec 32 := 0#32
  let v53 : BitVec 1 := Scalar.cmpi .ne v52 c0_i32_18
  v53

def k0_dev15 : Nat :=
  let c0_i32_517 : BitVec 32 := 0#32
  let c14_i32_515 : BitVec 32 := 14#32
  let c1_i32_516 : BitVec 32 := 1#32
  let v668 : BitVec 32 := Scalar.muli c14_i32_515 c1_i32_516
  let v669 : BitVec 32 := Scalar.addi c0_i32_517 v668
  v669.toNat
def k0_cond16 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v54 : BitVec 1 := Scalar.cmpi .ne v2 c15_i32
  let v55 : BitVec 32 := Scalar.extui v54
  let c0_i32_19 : BitVec 32 := 0#32
  let v56 : BitVec 1 := Scalar.cmpi .ne v55 c0_i32_19
  v56

def k0_dev16 : Nat :=
  let c0_i32_517 : BitVec 32 := 0#32
  let c15_i32_515 : BitVec 32 := 15#32
  let c1_i32_516 : BitVec 32 := 1#32
  let v668 : BitVec 32 := Scalar.muli c15_i32_515 c1_i32_516
  let v669 : BitVec 32 := Scalar.addi c0_i32_517 v668
  v669.toNat
def k0_off1 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_23 : BitVec 32 := 64#32
  let v60 : BitVec 32 := Scalar.muli v2 c64_i32_23
  let c0_i32_27 : BitVec 32 := 0#32
  ![v60.toNat, 0]
def k0_off3 (d0 : Dev nD) (c1_i32_21 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v57 : BitVec 32 := Scalar.addi v2 c1_i32_21
  let c16_i32_22 : BitVec 32 := 16#32
  let v58 : BitVec 32 := Scalar.remsi v57 c16_i32_22
  let c64_i32 : BitVec 32 := 64#32
  let v59 : BitVec 32 := Scalar.muli v58 c64_i32
  let c0_i32_28 : BitVec 32 := 0#32
  ![v59.toNat, 0]
def k0_dev17 (d0 : Dev nD) : Nat :=
  let c0_i32_26 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_21 : BitVec 32 := 1#32
  let v57 : BitVec 32 := Scalar.addi v2 c1_i32_21
  let c16_i32_22 : BitVec 32 := 16#32
  let v58 : BitVec 32 := Scalar.remsi v57 c16_i32_22
  let c1_i32_25 : BitVec 32 := 1#32
  let v61 : BitVec 32 := Scalar.muli v58 c1_i32_25
  let v62 : BitVec 32 := Scalar.addi c0_i32_26 v61
  v62.toNat
def k0_dev18 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_29 : BitVec 32 := 2#32
  let v69 : BitVec 32 := Scalar.addi v2 c2_i32_29
  let c16_i32_30 : BitVec 32 := 16#32
  let v70 : BitVec 32 := Scalar.remsi v69 c16_i32_30
  let c1_i32_34 : BitVec 32 := 1#32
  let v73 : BitVec 32 := Scalar.muli v70 c1_i32_34
  let v74 : BitVec 32 := Scalar.addi c0_i32_35 v73
  v74.toNat
def k0_dev19 (d0 : Dev nD) : Nat :=
  let c0_i32_44 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_38 : BitVec 32 := 3#32
  let v81 : BitVec 32 := Scalar.addi v2 c3_i32_38
  let c16_i32_39 : BitVec 32 := 16#32
  let v82 : BitVec 32 := Scalar.remsi v81 c16_i32_39
  let c1_i32_43 : BitVec 32 := 1#32
  let v85 : BitVec 32 := Scalar.muli v82 c1_i32_43
  let v86 : BitVec 32 := Scalar.addi c0_i32_44 v85
  v86.toNat
def k0_dev20 (d0 : Dev nD) : Nat :=
  let c0_i32_53 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_47 : BitVec 32 := 4#32
  let v93 : BitVec 32 := Scalar.addi v2 c4_i32_47
  let c16_i32_48 : BitVec 32 := 16#32
  let v94 : BitVec 32 := Scalar.remsi v93 c16_i32_48
  let c1_i32_52 : BitVec 32 := 1#32
  let v97 : BitVec 32 := Scalar.muli v94 c1_i32_52
  let v98 : BitVec 32 := Scalar.addi c0_i32_53 v97
  v98.toNat
def k0_dev21 (d0 : Dev nD) : Nat :=
  let c0_i32_62 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_56 : BitVec 32 := 5#32
  let v105 : BitVec 32 := Scalar.addi v2 c5_i32_56
  let c16_i32_57 : BitVec 32 := 16#32
  let v106 : BitVec 32 := Scalar.remsi v105 c16_i32_57
  let c1_i32_61 : BitVec 32 := 1#32
  let v109 : BitVec 32 := Scalar.muli v106 c1_i32_61
  let v110 : BitVec 32 := Scalar.addi c0_i32_62 v109
  v110.toNat
def k0_dev22 (d0 : Dev nD) : Nat :=
  let c0_i32_71 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_65 : BitVec 32 := 6#32
  let v117 : BitVec 32 := Scalar.addi v2 c6_i32_65
  let c16_i32_66 : BitVec 32 := 16#32
  let v118 : BitVec 32 := Scalar.remsi v117 c16_i32_66
  let c1_i32_70 : BitVec 32 := 1#32
  let v121 : BitVec 32 := Scalar.muli v118 c1_i32_70
  let v122 : BitVec 32 := Scalar.addi c0_i32_71 v121
  v122.toNat
def k0_dev23 (d0 : Dev nD) : Nat :=
  let c0_i32_80 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_74 : BitVec 32 := 7#32
  let v129 : BitVec 32 := Scalar.addi v2 c7_i32_74
  let c16_i32_75 : BitVec 32 := 16#32
  let v130 : BitVec 32 := Scalar.remsi v129 c16_i32_75
  let c1_i32_79 : BitVec 32 := 1#32
  let v133 : BitVec 32 := Scalar.muli v130 c1_i32_79
  let v134 : BitVec 32 := Scalar.addi c0_i32_80 v133
  v134.toNat
def k0_dev24 (d0 : Dev nD) : Nat :=
  let c0_i32_89 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_83 : BitVec 32 := 8#32
  let v141 : BitVec 32 := Scalar.addi v2 c8_i32_83
  let c16_i32_84 : BitVec 32 := 16#32
  let v142 : BitVec 32 := Scalar.remsi v141 c16_i32_84
  let c1_i32_88 : BitVec 32 := 1#32
  let v145 : BitVec 32 := Scalar.muli v142 c1_i32_88
  let v146 : BitVec 32 := Scalar.addi c0_i32_89 v145
  v146.toNat
def k0_dev25 (d0 : Dev nD) : Nat :=
  let c0_i32_98 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_92 : BitVec 32 := 9#32
  let v153 : BitVec 32 := Scalar.addi v2 c9_i32_92
  let c16_i32_93 : BitVec 32 := 16#32
  let v154 : BitVec 32 := Scalar.remsi v153 c16_i32_93
  let c1_i32_97 : BitVec 32 := 1#32
  let v157 : BitVec 32 := Scalar.muli v154 c1_i32_97
  let v158 : BitVec 32 := Scalar.addi c0_i32_98 v157
  v158.toNat
def k0_dev26 (d0 : Dev nD) : Nat :=
  let c0_i32_107 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_101 : BitVec 32 := 10#32
  let v165 : BitVec 32 := Scalar.addi v2 c10_i32_101
  let c16_i32_102 : BitVec 32 := 16#32
  let v166 : BitVec 32 := Scalar.remsi v165 c16_i32_102
  let c1_i32_106 : BitVec 32 := 1#32
  let v169 : BitVec 32 := Scalar.muli v166 c1_i32_106
  let v170 : BitVec 32 := Scalar.addi c0_i32_107 v169
  v170.toNat
def k0_dev27 (d0 : Dev nD) : Nat :=
  let c0_i32_116 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_110 : BitVec 32 := 11#32
  let v177 : BitVec 32 := Scalar.addi v2 c11_i32_110
  let c16_i32_111 : BitVec 32 := 16#32
  let v178 : BitVec 32 := Scalar.remsi v177 c16_i32_111
  let c1_i32_115 : BitVec 32 := 1#32
  let v181 : BitVec 32 := Scalar.muli v178 c1_i32_115
  let v182 : BitVec 32 := Scalar.addi c0_i32_116 v181
  v182.toNat
def k0_dev28 (d0 : Dev nD) : Nat :=
  let c0_i32_125 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_119 : BitVec 32 := 12#32
  let v189 : BitVec 32 := Scalar.addi v2 c12_i32_119
  let c16_i32_120 : BitVec 32 := 16#32
  let v190 : BitVec 32 := Scalar.remsi v189 c16_i32_120
  let c1_i32_124 : BitVec 32 := 1#32
  let v193 : BitVec 32 := Scalar.muli v190 c1_i32_124
  let v194 : BitVec 32 := Scalar.addi c0_i32_125 v193
  v194.toNat
def k0_dev29 (d0 : Dev nD) : Nat :=
  let c0_i32_134 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_128 : BitVec 32 := 13#32
  let v201 : BitVec 32 := Scalar.addi v2 c13_i32_128
  let c16_i32_129 : BitVec 32 := 16#32
  let v202 : BitVec 32 := Scalar.remsi v201 c16_i32_129
  let c1_i32_133 : BitVec 32 := 1#32
  let v205 : BitVec 32 := Scalar.muli v202 c1_i32_133
  let v206 : BitVec 32 := Scalar.addi c0_i32_134 v205
  v206.toNat
def k0_dev30 (d0 : Dev nD) : Nat :=
  let c0_i32_143 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_137 : BitVec 32 := 14#32
  let v213 : BitVec 32 := Scalar.addi v2 c14_i32_137
  let c16_i32_138 : BitVec 32 := 16#32
  let v214 : BitVec 32 := Scalar.remsi v213 c16_i32_138
  let c1_i32_142 : BitVec 32 := 1#32
  let v217 : BitVec 32 := Scalar.muli v214 c1_i32_142
  let v218 : BitVec 32 := Scalar.addi c0_i32_143 v217
  v218.toNat
def k0_dev31 (d0 : Dev nD) : Nat :=
  let c0_i32_152 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_146 : BitVec 32 := 15#32
  let v225 : BitVec 32 := Scalar.addi v2 c15_i32_146
  let c16_i32_147 : BitVec 32 := 16#32
  let v226 : BitVec 32 := Scalar.remsi v225 c16_i32_147
  let c1_i32_151 : BitVec 32 := 1#32
  let v229 : BitVec 32 := Scalar.muli v226 c1_i32_151
  let v230 : BitVec 32 := Scalar.addi c0_i32_152 v229
  v230.toNat
def k0_off4 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_159 : BitVec 32 := 64#32
  let v242 : BitVec 32 := Scalar.muli v2 c64_i32_159
  let v243 : Index := Scalar.indexCast v242
  let c0_160 : Index := 0#32
  ![v243.toNat, 0]
def k0_off5 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_161 : BitVec 32 := 64#32
  let v245 : BitVec 32 := Scalar.muli v2 c64_i32_161
  let v246 : Index := Scalar.indexCast v245
  let c0_162 : Index := 0#32
  ![v246.toNat, 0]
def k0_off6 (d0 : Dev nD) (c1_i32_163 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v249 : BitVec 32 := Scalar.subi v2 c1_i32_163
  let c16_i32_164 : BitVec 32 := 16#32
  let v250 : BitVec 32 := Scalar.addi v249 c16_i32_164
  let c16_i32_165 : BitVec 32 := 16#32
  let v251 : BitVec 32 := Scalar.remsi v250 c16_i32_165
  ![v251.toNat]
def k0_off7 (d0 : Dev nD) (c1_i32_163 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v249 : BitVec 32 := Scalar.subi v2 c1_i32_163
  let c16_i32_164 : BitVec 32 := 16#32
  let v250 : BitVec 32 := Scalar.addi v249 c16_i32_164
  let c16_i32_165 : BitVec 32 := 16#32
  let v251 : BitVec 32 := Scalar.remsi v250 c16_i32_165
  let c64_i32_167 : BitVec 32 := 64#32
  let v253 : BitVec 32 := Scalar.muli v251 c64_i32_167
  let c0_i32_171 : BitVec 32 := 0#32
  ![v253.toNat, 0]
def k0_off8 (d0 : Dev nD) (c1_i32_163 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v249 : BitVec 32 := Scalar.subi v2 c1_i32_163
  let c16_i32_164 : BitVec 32 := 16#32
  let v250 : BitVec 32 := Scalar.addi v249 c16_i32_164
  let c16_i32_165 : BitVec 32 := 16#32
  let v251 : BitVec 32 := Scalar.remsi v250 c16_i32_165
  let c64_i32_173 : BitVec 32 := 64#32
  let v260 : BitVec 32 := Scalar.muli v251 c64_i32_173
  let v261 : Index := Scalar.indexCast v260
  let c0_174 : Index := 0#32
  ![v261.toNat, 0]
def k0_off9 (d0 : Dev nD) (c1_i32_163 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v249 : BitVec 32 := Scalar.subi v2 c1_i32_163
  let c16_i32_164 : BitVec 32 := 16#32
  let v250 : BitVec 32 := Scalar.addi v249 c16_i32_164
  let c16_i32_165 : BitVec 32 := 16#32
  let v251 : BitVec 32 := Scalar.remsi v250 c16_i32_165
  let c64_i32_175 : BitVec 32 := 64#32
  let v263 : BitVec 32 := Scalar.muli v251 c64_i32_175
  let v264 : Index := Scalar.indexCast v263
  let c0_176 : Index := 0#32
  ![v264.toNat, 0]
abbrev stage0_0 : Fin 1 → Memref sig .tc .vmem S1024x64 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x1024 : Shape := ⟨2, ![1024, 1024]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S1024x1024, .bf16⟩
  | .hbm, ⟨2, _⟩ => ⟨S1024x1024, .f32⟩
  | .hbm, ⟨3, _⟩ => ⟨S1024x1024, .bf16⟩
  | .hbm, ⟨4, _⟩ => ⟨S1024x1024, .f32⟩
  | .hbm, ⟨5, _⟩ => ⟨S_, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S_, .f32⟩
  | .hbm, ⟨11, _⟩ => ⟨S1024x1024, .f32⟩
  | .hbm, ⟨12, _⟩ => ⟨S1024x1024, .f32⟩
  | .hbm, ⟨13, _⟩ => ⟨S1024x1024, .f32⟩
  | .hbm, ⟨14, _⟩ => ⟨S_, .f32⟩
  | .hbm, ⟨15, _⟩ => ⟨S1024x1024, .f32⟩
  | .hbm, ⟨16, _⟩ => ⟨S1024x1024, .f32⟩
  | .hbm, ⟨17, _⟩ => ⟨S1024x1024, .f32⟩
  | .hbm, ⟨18, _⟩ => ⟨S_, .f32⟩
  | .hbm, ⟨19, _⟩ => ⟨S1024x1024, .f32⟩
  | .hbm, ⟨20, _⟩ => ⟨S1024x1024, .f32⟩
  | .hbm, ⟨21, _⟩ => ⟨S1024x1024, .f32⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Proof.KernelIdeal.Talk.lean ====
/-
The conversation of the sixteen devices: buffers cut into row blocks, semaphore cells, what each cell expects and hands
over, and what each device owes its peers.

Every device copies its columns of `x` to a scratch buffer, greets its fifteen peers on the barrier semaphore (each greeting
hands over the block of the greeter's landing buffer that the peer will fill), waits for fifteen greetings, and then copies
row block `t` of its scratch buffer into row block `c` of device `t`'s landing buffer, for every peer `t`. The copy to the peer
`k + 1` places ahead completes on the sender's send semaphore `k` and on the receiver's receive semaphore `c`.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Ring
public import Idealize.ShloMosaic.Lib.ReshapeSlab
public import Idealize.ShloMosaic.Lib.Tactic

@[expose] public section

set_option maxRecDepth 16384

noncomputable section

namespace Cert.KernelIdeal.Mesh

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- Ghost state of the cells: the staging cells' and, beside it, the mesh's, whose duties are named by devices. -/
abbrev UB : Type := URounds (GSem nD τ sig) (Dev nD)
/-- The ghost state: the protocol's records beside the pipeline's. -/
abbrev UU : Type := UR sig nD τ × UB

local notation "𝕄" => MT nD τ sig Unit (Elt F) ℕ UU ℕ

abbrev EP : Emb (UR sig nD τ) (MT nD τ sig Unit (Elt F) ℕ UU ℕ) := embL
abbrev EM : Emb UB (MT nD τ sig Unit (Elt F) ℕ UU ℕ) := embR

variable (m : (ℓ : Loc nD τ sig) → Buf (Elt F) ℓ) (ρ : Dev nD → PrngReg)

/-- The state at launch: any memory, all counters zero, any generator registers. -/
def s₀ : MemSt nD τ sig (Elt F) := ⟨m, fun _ => 0, ρ⟩

/-! ## Who talks to whom -/

set_option backward.proofsInPublic true in
/-- The peer `k + 1` places ahead of `c`: the receiver of its copy `k`. -/
def dst (c : Dev nD) (k : Fin 15) : Dev nD := ⟨(c.val + k.val + 1) % 16, Nat.mod_lt _ (by decide)⟩
set_option backward.proofsInPublic true in
/-- The peer `k + 1` places behind `c`: the sender of the block it consumes at step `k`. -/
def src (c : Dev nD) (k : Fin 15) : Dev nD := ⟨((c.val + 15) - k.val) % 16, Nat.mod_lt _ (by decide)⟩

/-- A target is another device. -/
theorem dst_ne (c : Dev nD) (k : Fin 15) : dst c k ≠ c := by revert c k; decide
/-- A source is another device. -/
theorem src_ne (c : Dev nD) (k : Fin 15) : src c k ≠ c := by revert c k; decide
/-- Different steps have different targets. -/
theorem dst_inj (c : Dev nD) : Function.Injective (dst c) := by
  intro k k' h; revert c k k'; decide
/-- Different steps have different sources. -/
theorem src_inj (c : Dev nD) : Function.Injective (src c) := by
  intro k k' h; revert c k k'; decide
/-- The targets are all the other devices. -/
theorem peers_dst (c : Dev nD) : Finset.univ.map ⟨dst c, dst_inj c⟩ = Finset.univ.filter (· ≠ c) := by revert c; decide
/-- The sources are all the other devices. -/
theorem peers_src (c : Dev nD) : Finset.univ.map ⟨src c, src_inj c⟩ = Finset.univ.filter (· ≠ c) := by revert c; decide

/-- The step at which `c` sends to `t`, and the step at which `t` consumes from `c`, have the same number. -/
theorem dst_eq_iff (c t : Dev nD) (k : Fin 15) : dst c k = t ↔ src t k = c := by revert c t k; decide

/-! ## Memrefs -/

abbrev xM : Memref sig .tc .vmem S1024x64 .bf16 := Memref.whole cc0_stg0_0
abbrev wM : Memref sig .tc .vmem S1024x1024 .bf16 := Memref.whole cc0_stg1_0
abbrev oM : Memref sig .tc .vmem S64x1024 .f32 := Memref.whole cc0_stg2_0
abbrev lM : Memref sig .tc .vmem S1024x64 .bf16 := Memref.whole cc0_scratch0
abbrev vM : Memref sig .tc .vmem S1024x1024 .bf16 := Memref.whole cc0_scratch1
abbrev gM : Memref sig .tc .vmem S1024x64 .bf16 := Memref.whole cc0_scratch2

theorem rows_inb (b : Dev nD) : ∀ i, (![64 * b.val, 0] : Fin 2 → ℕ) i + S64x64.size i ≤ S1024x64.size i := by revert b; decide
theorem wrows_inb (b : Dev nD) : ∀ i, (![64 * b.val, 0] : Fin 2 → ℕ) i + S64x1024.size i ≤ S1024x1024.size i := by revert b; decide

/-- Rows `64 b … 64 b + 63` of a column block of `x`, and of the weights. -/
abbrev rows (b : Dev nD) : Rect S1024x64 := Rect.unit (s := S1024x64) ![64 * b.val, 0] S64x64.size (rows_inb b)
abbrev wrows (b : Dev nD) : Rect S1024x1024 := Rect.unit (s := S1024x1024) ![64 * b.val, 0] S64x1024.size (wrows_inb b)

/-- Row block `b` of the scratch copy of `x`, and of the landing buffer. -/
abbrev lB (b : Dev nD) : Memref sig .tc .vmem S64x64 .bf16 := lM.slice (rows b) (fun _ => rfl)
abbrev gB (b : Dev nD) : Memref sig .tc .vmem S64x64 .bf16 := gM.slice (rows b) (fun _ => rfl)

/-- Different blocks of 64 rows share no place. -/
theorem rows_disj {b b' : Dev nD} (h : b ≠ b') (v : View sig .tc .vmem S1024x64 .bf16) :
    Disjoint (v.slice (rows b)).set (v.slice (rows b')).set :=
  View.disjoint_slice_of_sep v (rows b) (rows b') 0 rfl rfl (by
    have hv : b.val ≠ b'.val := fun e => h (Fin.ext e)
    show 64 * b.val + 64 ≤ 64 * b'.val ∨ 64 * b'.val + 64 ≤ 64 * b.val
    omega)

/-- Every place lies in some block of rows. -/
theorem rows_cover (i : S1024x64.Idx) : ∃ b : Dev nD, i ∈ (rows b).set := by
  have h0 : (i 0).val < 1024 := (i 0).isLt
  have h1 : (i 1).val < 64 := (i 1).isLt
  have hb : (i 0).val / 64 < 16 := by omega
  refine ⟨(⟨(i 0).val / 64, hb⟩ : Fin 16), Rect.mem_set_unit.mpr fun a => ?_⟩
  fin_cases a
  · show 64 * ((i 0).val / 64) ≤ (i 0).val ∧ (i 0).val < 64 * ((i 0).val / 64) + 64
    omega
  · show 0 ≤ (i 1).val ∧ (i 1).val < 0 + 64
    omega

/-- The elements of a row block. -/
abbrev lSet (b : Dev nD) : Finset ((cc0_scratch0 : Ref sig .tc).ty.Idx) := (lB b).view.set
abbrev gSet (b : Dev nD) : Finset ((cc0_scratch2 : Ref sig .tc).ty.Idx) := (gB b).view.set

theorem lB_disj (b b' : Dev nD) (h : b ≠ b') : Disjoint (lB b).view.set (lB b').view.set := rows_disj h _
theorem gB_disj (b b' : Dev nD) (h : b ≠ b') : Disjoint (gB b).view.set (gB b').view.set := rows_disj h _
/-- The blocks of the send buffer make it up. -/
theorem lB_cover : Finset.univ.biUnion lSet = Finset.univ := by
  refine Finset.eq_univ_iff_forall.mpr fun i => ?_
  obtain ⟨b, hb⟩ := rows_cover i
  exact Finset.mem_biUnion.mpr ⟨b, Finset.mem_univ _, by show i ∈ ((View.whole cc0_scratch0).slice (rows b)).set; rw [View.set_slice_whole]; exact hb⟩
/-- The blocks of the receive buffer make it up. -/
theorem gB_cover : Finset.univ.biUnion gSet = Finset.univ := by
  refine Finset.eq_univ_iff_forall.mpr fun i => ?_
  obtain ⟨b, hb⟩ := rows_cover i
  exact Finset.mem_biUnion.mpr ⟨b, Finset.mem_univ _, by show i ∈ ((View.whole cc0_scratch2).slice (rows b)).set; rw [View.set_slice_whole]; exact hb⟩

/-! ## Semaphore cells -/

/-- The runtime's barrier semaphore of collective id 0. -/
abbrev barS : Sem sig := (SemArray.scalar (sig.barrier 0 rfl) : Sems sig S_).sem

set_option backward.proofsInPublic true in
/-- DMA semaphore `k` of the send array (`b = 0`) or of the receive array (`b = 1`). -/
def dsem (b : Fin 2) (k : Fin 16) : DmaSem sig := ⟨3 + 16 * b.val + k.val, by revert b k; decide⟩

theorem dsem_val (b : Fin 2) (k : Fin 16) : (dsem b k).val = 3 + 16 * b.val + k.val := rfl

/-- The kernel's own semaphores, as the launch counts them. -/
abbrev osem : Fin 2 × Fin 16 → SemLoc sig := fun bk => .dma (dsem bk.1 bk.2)

/-- All semaphores the mesh talks on: the barrier, then the kernel's own. -/
abbrev CI : Type := Unit ⊕ (Fin 2 × Fin 16)
abbrev csem : CI → SemLoc sig := Sum.elim (fun _ => .reg barS) osem
abbrev kcell (ck : Dev nD × CI) : GSem nD τ sig := ((ck.1 : Thread nD τ), csem ck.2)

abbrev iBar : CI := .inl ()
abbrev iSend (k : Fin 15) : CI := .inr (0, k.castSucc)
abbrev iRecv (s : Dev nD) : CI := .inr (1, s)

abbrev barCell (c : Dev nD) : GSem nD τ sig := ((c : Thread nD τ), .reg barS)
abbrev sendCell (c : Dev nD) (k : Fin 15) : GSem nD τ sig := ((c : Thread nD τ), .dma (dsem 0 k.castSucc))
abbrev recvCell (c s : Dev nD) : GSem nD τ sig := ((c : Thread nD τ), .dma (dsem 1 s))

/-- The semaphore the program names by slicing the send or receive array. -/
theorem send_sem (off : Fin 1 → ℕ) (k : Fin 15) (h : off = ![k.val]) (p : ∀ i, off i + S1.size i ≤ S16.size i) :
    (((cc0_scratch3 : DmaSems sig S16).slice (Rect.unit (s := S16) off S1.size p)).squeeze S_ squeezes_S1_S_).sem = dsem 0 k.castSucc := by
  subst h; revert k; decide
/-- A receive semaphore, found at the offset of its sender. -/
theorem recv_sem (off : Fin 1 → ℕ) (s : Dev nD) (h : off = ![s.val]) (p : ∀ i, off i + S1.size i ≤ S16.size i) :
    (((cc0_scratch4 : DmaSems sig S16).slice (Rect.unit (s := S16) off S1.size p)).squeeze S_ squeezes_S1_S_).sem = dsem 1 s := by
  subst h; revert s; decide

/-- The units one block's copy credits. -/
abbrev N : ℕ := (gB 0).view.dmaCredit
/-- A block's copy has bytes to credit. -/
theorem N_pos : 0 < N := View.dmaCredit_pos _ (by decide)

/-! ## Contents -/

/-- The staged operands. -/
def xstg (c : Dev nD) : (cc0_stg0_0 : Ref sig .tc).ty.Contents (Elt F) :=
  (win0_0.blk (0 : Fin 1)).view.read (Elt F) ((s₀ m ρ).mem ((c : Thread nD τ).loc main_arg0))
/-- The device's `w_mat`, as staged. -/
def wstg (c : Dev nD) : (cc0_stg1_0 : Ref sig .tc).ty.Contents (Elt F) :=
  (win0_1.blk (0 : Fin 1)).view.read (Elt F) ((s₀ m ρ).mem ((c : Thread nD τ).loc main_arg1))

/-- What the kernel stores in its two scratch copies. -/
def lV (c : Dev nD) : (cc0_scratch0 : Ref sig .tc).ty.Contents (Elt F) := k0_pay1 (xstg m ρ c)
/-- What the bf16 copy of `w_mat` holds. -/
def vV (c : Dev nD) : (cc0_scratch1 : Ref sig .tc).ty.Contents (Elt F) := k0_pay2 (wstg m ρ c)

/-- Row block `b` of device `s`'s copy of its columns of `x`, and of device `c`'s weights. -/
def xrow (s b : Dev nD) : S64x64.Idx → Elt F .bf16 := (lB b).view.read (Elt F) (lV m ρ s)
/-- The rows of `w_mat` that meet device `b`'s columns of `x`. -/
def wrow (c b : Dev nD) : S64x1024.Idx → Elt F .bf16 := ((vM).view.slice (wrows b)).read (Elt F) (vV m ρ c)

/-- The landing buffer of device `c` with device `s`'s block in place (elements outside it are no concern). -/
def gV (c s : Dev nD) : (cc0_scratch2 : Ref sig .tc).ty.Contents (Elt F) :=
  (gB s).view.write (Elt F) (lV m ρ s) (xrow m ρ s c) Finset.univ

/-- What a landed block reads as: the sender's rows for this device. -/
theorem gV_read (c s : Dev nD) : (gB s).view.read (Elt F) (gV m ρ c s) = xrow m ρ s c := by
  unfold gV; exact View.read_write_univ _ _

/-! ## Points-to of blocks -/

/-- Block `b` of the send buffer, filled. -/
def lAt (c b : Dev nD) : sProp 𝕄 := (lB b).view.loc (c : Thread nD τ) ↦[(lB b).view.set]{fullShare} lV m ρ c
/-- Block `b` of the receive buffer with contents `f`. -/
def gAt (c b : Dev nD) (f : Buf (Elt F) ((gB b).view.loc (c : Thread nD τ))) : sProp 𝕄 :=
  (gB b).view.loc (c : Thread nD τ) ↦[(gB b).view.set]{fullShare} f
/-- Block `b` of the receive buffer, whatever it holds. -/
def gAny (c b : Dev nD) : sProp 𝕄 := iprop(∃ f, gAt c b f)
/-- Block `s` of the receive buffer once device `s`'s copy has landed. -/
def gLand (c s : Dev nD) : sProp 𝕄 := gAt c s (gV m ρ c s)

instance lAt_storable (c b : Dev nD) : BI.Storable (upEmb : UEmb _ 𝕄) (lAt (F := F) m ρ c b) := by unfold lAt; infer_instance
omit [FloatOps F] in
instance gAt_storable (c b : Dev nD) (f) : BI.Storable (upEmb : UEmb _ 𝕄) (gAt (F := F) c b f) := by unfold gAt; infer_instance
omit [FloatOps F] in
instance gAny_storable (c b : Dev nD) : BI.Storable (upEmb : UEmb _ 𝕄) (gAny (F := F) c b) := by unfold gAny; infer_instance
instance gLand_storable (c b : Dev nD) : BI.Storable (upEmb : UEmb _ 𝕄) (gLand (F := F) m ρ c b) := by unfold gLand; infer_instance

/-- A block of `s` landed over anything is the landed block. -/
theorem land_eq (c s : Dev nD) (f : Buf (Elt F) ((gB s).view.loc (c : Thread nD τ))) :
    gAt c s ((gB s).view.write (Elt F) f ((lB c).view.read (Elt F) (lV m ρ s)) Finset.univ) = gLand m ρ c s := by
  unfold gLand gAt gV xrow
  exact pointsTo_congr fun i hi => View.write_congr (v := (gB s).view) (M := Finset.univ) (fun _ _ _ => rfl) fun h => absurd hi h

/-- The two buffers held whole are their blocks. -/
theorem l_blocks (c : Dev nD) :
    (((c : Thread nD τ).loc cc0_scratch0) ↦{fullShare} lV m ρ c : sProp 𝕄) = bigSep Finset.univ fun b => lAt m ρ c b :=
  Ring.pointsTo_blocks (ℓ := (c : Thread nD τ).loc cc0_scratch0) lSet lB_disj lB_cover _
/-- The receive buffer, cut by sender. -/
theorem g_blocks (c : Dev nD) (f : Buf (Elt F) ((c : Thread nD τ).loc cc0_scratch2)) :
    (((c : Thread nD τ).loc cc0_scratch2) ↦{fullShare} f : sProp 𝕄) = bigSep Finset.univ fun b => gAt c b f :=
  Ring.pointsTo_blocks (ℓ := (c : Thread nD τ).loc cc0_scratch2) gSet gB_disj gB_cover _
/-- Its blocks, put together again. -/
theorem g_join (c : Dev nD) (f₀ : Buf (Elt F) ((c : Thread nD τ).loc cc0_scratch2)) : (bigSep Finset.univ fun b => gAny (F := F) c b)
    ⊢ (iprop(∃ f, ((c : Thread nD τ).loc cc0_scratch2) ↦{fullShare} f) : sProp 𝕄) :=
  Ring.pointsTo_blocks_join_exists (ℓ := (c : Thread nD τ).loc cc0_scratch2) gSet gB_disj gB_cover f₀

/-! ## The schedule: one round per cell -/

/-- Who contributes to a cell of device `c`: to the barrier, every peer; to send semaphores 0–14, the one copy; to the receive
    semaphore of a peer, that peer's copy. -/
def duty (c : Dev nD) : SemLoc sig → Finset (Dev nD)
  | .reg _ => Finset.univ.filter (· ≠ c)
  | .dma q => if 3 ≤ q.val ∧ q.val < 18 then {0} else if 19 ≤ q.val ∧ q.val ≠ 19 + c.val then {0} else ∅

set_option backward.proofsInPublic true in
/-- A number as a device. -/
def devOf (n : ℕ) : Dev nD := ⟨n % 16, Nat.mod_lt _ (by decide)⟩

/-- What a contribution hands over: a greeting, the greeter's landing block for `c`; a completed send, the block sent; a completed
    receive, the landed block. -/
def handed (c : Dev nD) (d : Dev nD) : SemLoc sig → sProp 𝕄
  | .reg _ => gAny d c
  | .dma q => if q.val < 19 then lAt m ρ c (devOf (c.val + (q.val - 3) + 1)) else gLand m ρ c (devOf (q.val - 19))

/-- The units of one contribution. -/
def units : SemLoc sig → ℕ
  | .reg _ => 1
  | .dma _ => N

/-- Every duty is of a positive amount. -/
theorem units_pos : ∀ sm : SemLoc sig, 0 < units sm
  | .reg _ => Nat.one_pos
  | .dma _ => N_pos

/-- The protocol: on each semaphore, who pays, how much, and what is handed over. -/
def talk : Rounds.Schedule (GSem nD τ sig) (Dev nD) 𝕄 where
  duties g r := if r = 0 ∧ g.1.2 = .tc then duty g.1.1 g.2 else ∅
  unitless _ := False
  amount g _ _ := units g.2
  payload g _ d := handed m ρ g.1.1 d g.2
  amount_pos g _ _ _ := units_pos g.2

instance talk_storable (g : GSem nD τ sig) (r : ℕ) (d : Dev nD) :
    BI.Storable (upEmb : UEmb _ 𝕄) ((talk (F := F) m ρ).payload g r d) := by
  show BI.Storable upEmb (handed m ρ g.1.1 d g.2)
  unfold handed
  split
  · infer_instance
  · split <;> infer_instance

end Cert.KernelIdeal.Mesh
-- ==== Proof.KernelIdeal.Ledger.lean ====
/-
The schedule's tables, what each device owes its peers at launch, and the order of the cells that rules out deadlock.
-/
module

public import proofs.«01_k».proof.Proof.KernelIdeal.Talk

@[expose] public section

set_option maxRecDepth 16384

noncomputable section

namespace Cert.KernelIdeal.Mesh

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring

variable {F : FTy → Type} [FloatOps F]

local notation "𝕄" => MT nD τ sig Unit (Elt F) ℕ UU ℕ

variable (m : (ℓ : Loc nD τ sig) → Buf (Elt F) ℓ) (ρ : Dev nD → PrngReg)

/-! ## Tables -/

section Tables
variable (c s : Dev nD) (k : Fin 15)

/-- Every other device signals the barrier once. -/
theorem duties_bar : (talk (F := F) m ρ).duties (barCell c) 0 = Finset.univ.filter (· ≠ c) := by
  dsimp only [talk]; rw [if_pos ⟨rfl, rfl⟩]; rfl
/-- A send semaphore is credited once. -/
theorem duties_send : (talk (F := F) m ρ).duties (sendCell c k) 0 = {0} := by
  dsimp only [talk]; rw [if_pos ⟨rfl, rfl⟩]
  exact if_pos ⟨by rw [dsem_val]; show 3 ≤ 3 + 16 * 0 + k.val; omega, by rw [dsem_val]; have := k.isLt; show 3 + 16 * 0 + k.val < 18; omega⟩
/-- A receive semaphore is credited once, by its sender. -/
theorem duties_recv (h : s ≠ c) : (talk (F := F) m ρ).duties (recvCell c s) 0 = {0} := by
  have hv : s.val ≠ c.val := fun e => h (Fin.ext e)
  dsimp only [talk]; rw [if_pos ⟨rfl, rfl⟩]
  have e : (dsem 1 s).val = 19 + s.val := rfl
  show duty c (.dma (dsem 1 s)) = {0}
  unfold duty; dsimp only; rw [e, if_neg (by omega), if_pos (by omega)]
/-- Send semaphore 15 and a device's receive semaphore of its own number are never used. -/
theorem duties_send_last (r : ℕ) : (talk (F := F) m ρ).duties (kcell (c, .inr (0, 15))) r = ∅ := by
  have e : (dsem 0 15).val = 18 := rfl
  dsimp only [talk]; split
  · show duty c (.dma (dsem 0 15)) = ∅
    unfold duty; dsimp only; rw [e, if_neg (by omega), if_neg (by omega)]
  · rfl
/-- A device sends itself nothing. -/
theorem duties_recv_own (r : ℕ) : (talk (F := F) m ρ).duties (recvCell c c) r = ∅ := by
  have e : (dsem 1 c).val = 19 + c.val := rfl
  dsimp only [talk]; split
  · show duty c (.dma (dsem 1 c)) = ∅
    unfold duty; dsimp only; rw [e, if_neg (by omega), if_neg (by omega)]
  · rfl
/-- There is one round only. -/
theorem duties_later (g : GSem nD τ sig) (r : ℕ) (hr : 1 ≤ r) : (talk (F := F) m ρ).duties g r = ∅ := by
  dsimp only [talk]; rw [if_neg fun h => by omega]

/-- The barrier is waited on for fifteen. -/
theorem expect_bar : (talk (F := F) m ρ).expect (barCell c) 0 = 15 := by
  unfold Schedule.expect Schedule.amountOf
  rw [duties_bar, Finset.sum_congr rfl fun d _ => show (talk (F := F) m ρ).amount (barCell c) 0 d = 1 from rfl, Finset.sum_const, smul_eq_mul, mul_one]
  revert c; decide
/-- A send semaphore is waited on for one block. -/
theorem expect_send : (talk (F := F) m ρ).expect (sendCell c k) 0 = N := by
  unfold Schedule.expect Schedule.amountOf; rw [duties_send, Finset.sum_singleton]; rfl
/-- A receive semaphore is waited on for one block. -/
theorem expect_recv (h : s ≠ c) : (talk (F := F) m ρ).expect (recvCell c s) 0 = N := by
  unfold Schedule.expect Schedule.amountOf; rw [duties_recv m ρ c s h, Finset.sum_singleton]; rfl

/-- A barrier signal hands over leave to write one block of the signaller's receive buffer. -/
theorem payload_bar (d : Dev nD) : (talk (F := F) m ρ).payload (barCell c) 0 d = gAny d c := rfl
/-- A finished send hands back the block that was read. -/
theorem payload_send (d : Dev nD) : (talk (F := F) m ρ).payload (sendCell c k) 0 d = lAt m ρ c (dst c k) := by
  have e : (dsem 0 k.castSucc).val = 3 + k.val := by rw [dsem_val]; show 3 + 16 * 0 + k.val = _; omega
  have hk := k.isLt
  dsimp only [talk, handed]
  rw [if_pos (by rw [e]; omega), e]
  congr 1
  exact Fin.ext (by show (c.val + (3 + k.val - 3) + 1) % 16 = (c.val + k.val + 1) % 16; rw [show 3 + k.val - 3 = k.val by omega])
/-- A landing hands over the sender's rows. -/
theorem payload_recv (d : Dev nD) : (talk (F := F) m ρ).payload (recvCell c s) 0 d = gLand m ρ c s := by
  have e : (dsem 1 s).val = 19 + s.val := rfl
  dsimp only [talk, handed]
  rw [if_neg (by rw [e]; omega), e]
  congr 1
  exact Fin.ext (by show (19 + s.val - 19) % 16 = s.val; have : s.val < 16 := s.isLt; omega)

/-- What the barrier wait collects. -/
theorem rest_bar : bigSep ((talk (F := F) m ρ).duties (barCell c) 0 \ ∅) (fun d => (talk (F := F) m ρ).payload (barCell c) 0 d)
    = bigSep Finset.univ fun k : Fin 15 => gAny (dst c k) c := by
  rw [Finset.sdiff_empty, duties_bar, ← peers_dst, bigSep_map]; rfl
/-- What a wait for a send collects. -/
theorem rest_send : bigSep ((talk (F := F) m ρ).duties (sendCell c k) 0 \ ∅) (fun d => (talk (F := F) m ρ).payload (sendCell c k) 0 d) = lAt m ρ c (dst c k) := by
  rw [Finset.sdiff_empty, duties_send, bigSep_singleton, payload_send]
/-- What a wait for a landing collects. -/
theorem rest_recv (h : s ≠ c) : bigSep ((talk (F := F) m ρ).duties (recvCell c s) 0 \ ∅) (fun d => (talk (F := F) m ρ).payload (recvCell c s) 0 d) = gLand m ρ c s := by
  rw [Finset.sdiff_empty, duties_recv m ρ c s h, bigSep_singleton, payload_recv]

end Tables

/-! ## What a device owes -/

/-- A greeting to `j`, unless it is itself. -/
def oweBar (c j : Dev nD) : CellTallies nD τ sig Unit := if j = c then 0 else tallyAt (barCell j) () 1
/-- Copy `k`'s completion at its receiver. -/
def oweRecv (c : Dev nD) (k : Fin 15) : CellTallies nD τ sig Unit := tallyAt (recvCell (dst c k) c) () N

/-- The greetings to devices `n` and on; the copies `n` and on. -/
def owesBar (c : Dev nD) (n : ℕ) : CellTallies nD τ sig Unit := ∑ j ∈ rangeSet 16 n 16, oweBar c j
/-- The copies still owed from step `n` on. -/
def owesRecv (c : Dev nD) (n : ℕ) : CellTallies nD τ sig Unit := ∑ k ∈ rangeSet 15 n 15, oweRecv c k

/-- The next signal owed, taken off. -/
theorem owesBar_head (c j : Dev nD) : owesBar c j.val = owesBar c (j.val + 1) + oweBar c j := by
  unfold owesBar
  rw [rangeSet_head j.isLt j.isLt, Finset.sum_insert (head_not_mem_rangeSet j.isLt), add_comm]
/-- The next copy owed, taken off. -/
theorem owesRecv_head (c : Dev nD) (k : Fin 15) : owesRecv c k.val = owesRecv c (k.val + 1) + oweRecv c k := by
  unfold owesRecv
  rw [rangeSet_head k.isLt k.isLt, Finset.sum_insert (head_not_mem_rangeSet k.isLt), add_comm]
/-- All signals sent, none is owed. -/
theorem owesBar_none (c : Dev nD) : owesBar c 16 = 0 := by unfold owesBar; rw [rangeSet_empty le_rfl, Finset.sum_empty]
/-- All copies started, none is owed. -/
theorem owesRecv_none (c : Dev nD) : owesRecv c 15 = 0 := by unfold owesRecv; rw [rangeSet_empty le_rfl, Finset.sum_empty]

/-- At launch. -/
def O₀ (c : Dev nD) : CellTallies nD τ sig Unit := owesRecv c 0 + owesBar c 0

/-! ## Levels -/

def L (g : GSem nD τ sig) : Finset Unit := if g.1.2 = .tc then {()} else ∅
/-- Staging and send cells below the barrier, the barrier below the receive cells. -/
def lev : SemLoc sig → ℕ
  | .reg _ => 1
  | .dma q => if 19 ≤ q.val then 2 else 0
/-- The level of a cell. -/
def lv (g : GSem nD τ sig) (_ : Unit) : ℕ := lev g.2

theorem L_of_ne (g : GSem nD τ sig) (h : g.1.2 ≠ .tc) : L g = ∅ := if_neg h
theorem L_tc (c : Dev nD) (sm : SemLoc sig) : L ((c : Thread nD τ), sm) = {()} := if_pos rfl

theorem sum_pos {I : Type} {S : Finset I} {f : I → CellTallies nD τ sig Unit} {g : GSem nD τ sig} {u : Unit}
    (h : 0 < (∑ i ∈ S, f i) g u) : ∃ i ∈ S, 0 < f i g u := by
  by_contra hn
  rw [Finset.sum_apply, Finsupp.finset_sum_apply, Finset.sum_eq_zero fun i hi => Nat.eq_zero_of_not_pos fun hp => hn ⟨i, hi, hp⟩] at h
  exact Nat.lt_irrefl 0 h

/-- Copies are owed on receive semaphores only. -/
theorem owesRecv_pos {c : Dev nD} {n : ℕ} {g : GSem nD τ sig} {u : Unit} (h : 0 < owesRecv c n g u) : ∃ t s : Dev nD, g = recvCell t s := by
  obtain ⟨k, _, hk⟩ := sum_pos h
  unfold oweRecv at hk
  rw [tallyAt_apply] at hk
  by_cases hg : g = recvCell (dst c k) c ∧ u = ()
  · exact ⟨_, _, hg.1⟩
  · rw [if_neg hg] at hk; exact absurd hk (Nat.lt_irrefl 0)

/-- Signals are owed on barriers only. -/
theorem owesBar_pos {c : Dev nD} {n : ℕ} {g : GSem nD τ sig} {u : Unit} (h : 0 < owesBar c n g u) : ∃ t : Dev nD, g = barCell t := by
  obtain ⟨j, _, hj⟩ := sum_pos h
  unfold oweBar at hj
  split at hj
  · exact absurd hj (Nat.lt_irrefl 0)
  · rw [tallyAt_apply] at hj
    by_cases hg : g = barCell j ∧ u = ()
    · exact ⟨_, hg.1⟩
    · rw [if_neg hg] at hj; exact absurd hj (Nat.lt_irrefl 0)

/-- All that is owed at the start is on barriers and receive semaphores. -/
theorem O₀_pos {c : Dev nD} {g : GSem nD τ sig} {u : Unit} (h : 0 < O₀ c g u) : (∃ t s : Dev nD, g = recvCell t s) ∨ ∃ t : Dev nD, g = barCell t := by
  unfold O₀ at h
  rw [Pi.add_apply, Finsupp.add_apply] at h
  rcases Nat.eq_zero_or_pos (owesRecv c 0 g u) with h0 | h0
  · rw [h0, Nat.zero_add] at h; exact .inr (owesBar_pos h)
  · exact .inl (owesRecv_pos h0)

theorem lev_recv (s : Dev nD) : lev (.dma (dsem 1 s)) = 2 := if_pos (by show 19 ≤ 3 + 16 * 1 + s.val; omega)

/-- A wait on a staging or send semaphore lies below all that is owed. -/
theorem mayWait_low (c : Dev nD) (q : DmaSem sig) (hq : q.val < 19) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by
        rcases O₀_pos hg with ⟨t, s, rfl⟩ | ⟨t, rfl⟩ <;> exact Finset.mem_singleton_self _)
      (fun p hp => by rw [Finset.mem_singleton.mp hp]; exact le_of_eq (if_neg (by omega)))
      (fun g u hg => by
        rcases O₀_pos hg with ⟨t, s, rfl⟩ | ⟨t, rfl⟩
        · show 0 < lev _; rw [lev_recv]; decide
        · exact Nat.one_pos)
  · rw [MayWait_zero]; iintro -; iempintro

/-- The barrier wait lies below the copies still owed. -/
theorem mayWait_bar (c : Dev nD) : (levAts L lv : sProp 𝕄) ⊢ MayWait (c : Thread nD τ) (.reg barS) () (owesRecv c 0) :=
  MayOwe.of_cut (L := L) (lev := lv) 1 (fun p hp => by rw [Finset.mem_singleton.mp hp, L_tc]; exact Finset.mem_singleton_self _)
    (fun g u hg => by obtain ⟨t, s, rfl⟩ := owesRecv_pos hg; exact Finset.mem_singleton_self _)
    (fun p hp => by rw [Finset.mem_singleton.mp hp]; exact le_rfl)
    (fun g u hg => by obtain ⟨t, s, rfl⟩ := owesRecv_pos hg; show 1 < lev _; rw [lev_recv]; decide)

/-! ## Credits at launch -/

theorem bar_eq_iff {a b : Dev nD} : Iff (barCell a = barCell b) (a = b) :=
  ⟨fun h => Fin.ext (congrArg (fun g : GSem nD τ sig => g.1.1.val) h), fun h => h ▸ rfl⟩
theorem dsem_inj {b b' : Fin 2} {k k' : Fin 16} (h : dsem b k = dsem b' k') : b = b' ∧ k = k' := by revert b b' k k'; decide
theorem recv_eq_iff {a b s t : Dev nD} : Iff (recvCell a s = recvCell b t) (a = b ∧ s = t) :=
  ⟨fun h => ⟨Fin.ext (congrArg (fun g : GSem nD τ sig => g.1.1.val) h), (dsem_inj (SemLoc.dma.inj (congrArg Prod.snd h))).2⟩, fun h => by rw [h.1, h.2]⟩

theorem owesRecv_bar (d t : Dev nD) (n : ℕ) : owesRecv d n (barCell t) () = 0 := by
  refine Nat.eq_zero_of_not_pos fun h => ?_
  obtain ⟨a, b, e⟩ := owesRecv_pos h
  exact absurd (congrArg (fun g : GSem nD τ sig => g.2) e) fun h => by cases h
theorem owesBar_recv (d t s : Dev nD) (n : ℕ) : owesBar d n (recvCell t s) () = 0 := by
  refine Nat.eq_zero_of_not_pos fun h => ?_
  obtain ⟨a, e⟩ := owesBar_pos h
  exact absurd (congrArg (fun g : GSem nD τ sig => g.2) e) fun h => by cases h

/-- Every peer owes a barrier one greeting; -/
theorem owed_bar (d c : Dev nD) : O₀ d (barCell c) () = if c = d then 0 else 1 := by
  unfold O₀
  rw [Pi.add_apply, Finsupp.add_apply, owesRecv_bar, Nat.zero_add]
  unfold owesBar
  rw [Finset.sum_apply, Finsupp.finset_sum_apply, rangeSet_univ, Finset.sum_eq_single c (fun j _ hj => ?_) fun h => absurd (Finset.mem_univ _) h]
  · unfold oweBar; split
    · rfl
    · rw [tallyAt_apply, if_pos ⟨rfl, rfl⟩]
  · unfold oweBar; split
    · rfl
    · rw [tallyAt_apply, if_neg fun h => hj (bar_eq_iff.mp h.1).symm]

/-- a receive semaphore is owed its one copy by its one sender. -/
theorem owed_recv (d c s : Dev nD) (h : s ≠ c) : O₀ d (recvCell c s) () = if d = s then N else 0 := by
  unfold O₀
  rw [Pi.add_apply, Finsupp.add_apply, owesBar_recv, Nat.add_zero]
  unfold owesRecv
  rw [Finset.sum_apply, Finsupp.finset_sum_apply, rangeSet_univ]
  obtain ⟨k, _, hk⟩ := Finset.mem_map.mp (by rw [peers_src c]; exact Finset.mem_filter.mpr ⟨Finset.mem_univ s, h⟩ : s ∈ Finset.univ.map ⟨src c, src_inj c⟩)
  have hk' : src c k = s := hk
  rw [Finset.sum_eq_single k (fun j _ hj => ?_) fun h => absurd (Finset.mem_univ _) h]
  · unfold oweRecv
    rw [tallyAt_apply]
    by_cases hd : d = s
    · rw [if_pos hd, if_pos ⟨recv_eq_iff.mpr ⟨((dst_eq_iff d c k).mpr (hk'.trans hd.symm)).symm, hd.symm⟩, rfl⟩]
    · rw [if_neg hd, if_neg fun hh => hd (recv_eq_iff.mp hh.1).2.symm]
  · unfold oweRecv
    rw [tallyAt_apply, if_neg fun hh => ?_]
    have e := recv_eq_iff.mp hh.1
    have e1 : src c j = d := (dst_eq_iff d c j).mp e.1.symm
    exact hj (src_inj c (e1.trans (e.2.symm.trans hk'.symm)))

/-- All devices together owe a barrier what it expects. -/
theorem launch_bar (c : Dev nD) :
    tallyOn (barCell c) (launchCredit (Pipeline.owing O₀) 0 (barCell c)) = (tallyAt (barCell c) () 15 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide

/-- All devices together owe a receive semaphore what it expects. -/
theorem launch_recv (c s : Dev nD) (h : s ≠ c) :
    tallyOn (recvCell c s) (launchCredit (Pipeline.owing O₀) 0 (recvCell c s)) = (tallyAt (recvCell c s) () N : CellTallies nD τ sig Unit) := by
  unfold tallyAt; refine congrArg _ (Finsupp.ext fun u => ?_); cases u
  rw [Pipeline.launchCredit_owing, Finsupp.single_eq_same, Finset.sum_congr rfl fun d _ => owed_recv d c s h, Finset.sum_ite_eq' Finset.univ s fun _ => N,
    if_pos (Finset.mem_univ _)]

/-- So a device starts with the credit of its fifteen greetings and of its fifteen landings. -/
theorem creds (c : Dev nD) :
    (Pipeline.launchCred O₀ c : sProp 𝕄)
      ⊢ iprop(cred (tallyAt (barCell c) () 15) ∗ bigSep Finset.univ fun k : Fin 15 => cred (tallyAt (recvCell c (src c k)) () N)) := by
  have inj : Function.Injective fun k : Fin 15 => (SemLoc.dma (dsem 1 (src c k)) : SemLoc sig) :=
    fun k k' h => src_inj c (dsem_inj (SemLoc.dma.inj h)).2
  unfold Pipeline.launchCred
  rw [bigSep_univ_at _ (SemLoc.reg barS), launch_bar]
  refine sep_mono_right ?_
  rw [bigSep_congr (s := Finset.univ) fun (k : Fin 15) _ => by rw [← launch_recv c (src c k) (src_ne c k)]]
  refine BI.Entails.trans ?_ (Entails.of_eq (bigSep_map (s := Finset.univ) (⟨_, inj⟩ : Fin 15 ↪ SemLoc sig)
      (Φ := fun sm => cred (tallyOn ((c : Thread nD τ), sm) (launchCredit (Pipeline.owing O₀) 0 ((c : Thread nD τ), sm))))))
  refine bigSep_subset fun sm h => ?_
  obtain ⟨k, _, rfl⟩ := Finset.mem_map.mp h
  exact Finset.mem_erase.mpr ⟨(fun h' => by cases h'), Finset.mem_univ _⟩

end Cert.KernelIdeal.Mesh
-- ==== Proof.KernelIdeal.Steps.lean ====
/-
What a device holds through its body, and one rule per kind of effect: from the state before it, the program whose head is the
effect runs if its continuation runs from the state after it.
-/
module

public import proofs.«01_k».proof.Proof.KernelIdeal.Ledger

@[expose] public section

set_option maxRecDepth 16384

noncomputable section

namespace Cert.KernelIdeal.Mesh

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- A device's program. -/
abbrev Pg (F : FTy → Type) [FloatOps F] (α : Type) : Type 1 := Prog (TpuEff nD τ sig (Elt F) Λ₀ .tc) α

/-- Device `c` runs `p` to `Q`. -/
abbrev runs {α : Type} (c : Dev nD) (p : Pg F α) (Q : α → sProp 𝕄) : sProp 𝕄 :=
  wp frame (wpE (defs₀ (F := F)) 𝒱₀ (c : Thread nD τ) none) Set.univ p Q

theorem lift_bind {α β : Type} (e : TpuEff nD τ sig (Elt F) Λ₀ .tc β) (k : β → Pg F α) : (Prog.lift e >>= k) = .op e k := rfl

/-- Parts run one after the other; the end of a program; its device's number. -/
theorem runs_bind {α β : Type} (c : Dev nD) (p : Pg F β) (k : β → Pg F α) (Q : α → sProp 𝕄) :
    runs c (p >>= k) Q = runs c p (fun x => runs c (k x) Q) := wp_bind _ _ _ _ _ _
/-- A finished program. -/
theorem runs_pure {α : Type} {c : Dev nD} {a : α} {P : sProp 𝕄} {Q : α → sProp 𝕄} (h : P ⊢ Q a) : P ⊢ runs c (pure a) Q := by
  show P ⊢ wp frame _ Set.univ (.ret a) Q
  rw [wp_ret]
  iintro HP; imodintro; iapply h; iexact HP
/-- Asking for the device's own number. -/
theorem step_deviceId {α : Type} {c : Dev nD} {P : sProp 𝕄} {Q : α → sProp 𝕄} {k : Dev nD → Pg F α} (h : P ⊢ runs c (k c) Q) :
    P ⊢ runs c (Prog.lift .deviceId >>= k) Q := by
  rw [lift_bind]; unfold runs; rw [wp_deviceId]; exact h

/-! ## What is shared -/

variable (K : Dev nD × CI → ℕ)

/-- All cells' invariants, that all have reached round 0, and the levels. -/
def shared : sProp 𝕄 :=
  iprop((bigSep Finset.univ fun ck : Dev nD × CI => cellInv EM (talk m ρ) (K ck) (kcell ck))
    ∗ (bigSep Finset.univ fun ck : Dev nD × CI => reached EM (kcell ck) 0) ∗ levAts L lv)

instance shared_persistent : BI.Persistent (shared (F := F) m ρ K) := by unfold shared; infer_instance

/-- The invariant of one cell, out of the shared facts. -/
theorem shared_inv (ck : Dev nD × CI) : shared m ρ K ⊢ cellInv EM (talk m ρ) (K ck) (kcell ck) := by
  unfold shared
  iintro ⟨H, -⟩
  iapply (show (bigSep Finset.univ fun ck : Dev nD × CI => (cellInv EM (talk m ρ) (K ck) (kcell ck) : sProp 𝕄)) ⊢ cellInv EM (talk m ρ) (K ck) (kcell ck) from BI.bigSep_elim (Finset.mem_univ ck)); iexact H
/-- The first round of one cell, out of the shared facts. -/
theorem shared_reached (ck : Dev nD × CI) : shared m ρ K ⊢ reached EM (kcell ck) 0 := by
  unfold shared
  iintro ⟨-, H, -⟩
  iapply (show (bigSep Finset.univ fun ck : Dev nD × CI => (reached EM (kcell ck) 0 : sProp 𝕄)) ⊢ reached EM (kcell ck) 0 from BI.bigSep_elim (Finset.mem_univ ck)); iexact H
/-- The levels, out of the shared facts. -/
theorem shared_lev : shared m ρ K ⊢ levAts L lv := by
  unfold shared
  iintro ⟨-, -, H⟩; iexact H

/-- What `c` owes, whatever waits it has recorded. -/
def owe (c : Dev nD) (O : CellTallies nD τ sig Unit) : sProp 𝕄 := iprop(∃ W, owes (c : Thread nD τ) O W)

/-! ## The states -/

/-- What the greeting of `j` takes: the right to contribute to its barrier, and the landing block it will fill. -/
def greetPart (c j : Dev nD) : sProp 𝕄 := if j = c then iprop(emp) else iprop(dutyTok EM (barCell j) 0 c ∗ gAny c j)
/-- Before the greeting of device `n`. -/
def Greet (c : Dev nD) (n : ℕ) : sProp 𝕄 :=
  iprop(shared m ρ K ∗ owe c (owesRecv c 0 + owesBar c n) ∗ bigSep (rangeSet 16 n 16) (greetPart c))

/-- What copy `k` takes: the block of the receiver's landing buffer, the block sent, the rights to complete at both ends. -/
def sendPart (c : Dev nD) (k : Fin 15) : sProp 𝕄 :=
  iprop(lAt m ρ c (dst c k) ∗ dutyTok EM (sendCell c k) 0 0 ∗ dutyTok EM (recvCell (dst c k) c) 0 0)
/-- Before copy `n`. -/
def Send (c : Dev nD) (n : ℕ) : sProp 𝕄 :=
  iprop(shared m ρ K ∗ owe c (owesRecv c n) ∗ bigSep (rangeSet 15 n 15) (fun k => iprop(gAny (dst c k) c ∗ sendPart m ρ c k))
    ∗ bigSep (rangeSet 15 0 n) (fun k => cred (tallyAt (sendCell c k) () N)))

/-- What the wait for step `k`'s block takes, and leaves. -/
def recvPart (c : Dev nD) (k : Fin 15) : sProp 𝕄 :=
  iprop(cred (tallyAt (recvCell c (src c k)) () N) ∗ atPos EM (recvCell c (src c k)) 0 ∅ 0)
/-- A step after its landing: the semaphore spent, the block filled. -/
def recvDone (c : Dev nD) (k : Fin 15) : sProp 𝕄 := iprop(atPos EM (recvCell c (src c k)) 1 ∅ 0 ∗ gLand m ρ c (src c k))
/-- Before the wait for step `n`'s block. -/
def Recv (c : Dev nD) (n : ℕ) : sProp 𝕄 :=
  iprop(shared m ρ K ∗ owe c 0 ∗ bigSep (rangeSet 15 n 15) (recvPart c) ∗ bigSep (rangeSet 15 0 n) (recvDone m ρ c))

/-- What the wait for copy `k`'s completion takes, and leaves. -/
def backPart (c : Dev nD) (k : Fin 15) : sProp 𝕄 := iprop(cred (tallyAt (sendCell c k) () N) ∗ atPos EM (sendCell c k) 0 ∅ 0)
/-- A step after its send: the semaphore spent, the block back. -/
def backDone (c : Dev nD) (k : Fin 15) : sProp 𝕄 := iprop(atPos EM (sendCell c k) 1 ∅ 0 ∗ lAt m ρ c (dst c k))
/-- Before the wait for copy `n`'s completion. -/
def Back (c : Dev nD) (n : ℕ) : sProp 𝕄 :=
  iprop(shared m ρ K ∗ owe c 0 ∗ bigSep (rangeSet 15 n 15) (backPart c) ∗ bigSep (rangeSet 15 0 n) (backDone m ρ c))

/-- A family's run from `k` on loses its head; the run below `k` gains it. -/
theorem run_head {n : ℕ} (k : Fin n) (Φ : Fin n → sProp 𝕄) :
    bigSep (rangeSet n k.val n) Φ = iprop(Φ k ∗ bigSep (rangeSet n (k.val + 1) n) Φ) := bigSep_rangeSet_head k.isLt k.isLt
/-- The next of a run of things, taken off. -/
theorem run_last {n : ℕ} (k : Fin n) (Φ : Fin n → sProp 𝕄) :
    bigSep (rangeSet n 0 (k.val + 1)) Φ = iprop(Φ k ∗ bigSep (rangeSet n 0 k.val) Φ) :=
  bigSep_rangeSet_last (Nat.succ_pos _) k.isLt

/-! ## Greetings -/

section
variable (c : Dev nD)

theorem signal_form {α : Type} (t : Dev nD) (k : PUnit → Pg F α) :
    (semSignalWord t barS 1#32 >>= k) = .op (.semSignal (t : Thread nD τ) barS ((1 : ℕ) : ℤ)) k := rfl

/-- Signalling a peer, skipped where the peer is this device. -/
theorem step_greet {α : Type} {Q : α → sProp 𝕄} {G : sProp 𝕄} (j : Dev nD) {cond : BitVec 1} {dv : ℕ} {hlt : cond = 1#1 → dv < nD} (hc : cond = 1#1 ↔ j ≠ c) (hd : dv = j.val)
    {k : Pg F α} (h : iprop(Greet m ρ K c (j.val + 1) ∗ G) ⊢ runs c k Q) :
    iprop(Greet m ρ K c j.val ∗ G)
      ⊢ runs c (if hh : cond = 1#1 then (semSignalWord (⟨dv, hlt hh⟩ : Dev nD) barS 1#32 >>= fun _ => k) else k) Q := by
  refine BIBase.Entails.trans ?_ (show iprop(Greet m ρ K c j.val ∗ G ∗ (iprop(Greet m ρ K c (j.val + 1) ∗ G) -∗ runs c k Q)) ⊢ _ from ?_)
  · iintro ⟨HA, HG⟩
    isplitl [HA]; · iexact HA
    isplitl [HG]; · iexact HG
    iintro H; iapply h; iexact H
  unfold Greet
  rw [run_head j, owesBar_head c j]
  by_cases hjc : j = c
  · rw [dif_neg (fun hh => hc.mp hh hjc)]
    have e1 : oweBar c j = 0 := if_pos hjc
    have e2 : greetPart (F := F) c j = iprop(emp) := if_pos hjc
    rw [e1, e2, add_zero]
    iintro ⟨⟨#HS, HO, -, HB⟩, HG, Hk⟩
    iapply Hk
    isplitr [HG]
    · isplitr; · iexact HS
      isplitl [HO] <;> iassumption
    · iexact HG
  · have hcond : cond = 1#1 := hc.mpr hjc
    rw [dif_pos hcond]
    subst hd
    have e1 : oweBar c j = tallyAt (barCell j) () 1 := if_neg hjc
    have e2 : greetPart (F := F) c j = iprop(dutyTok EM (barCell j) 0 c ∗ gAny c j) := if_neg hjc
    rw [e1, e2, signal_form]
    unfold owe
    iintro ⟨⟨#HS, ⟨%W, HO⟩, ⟨Ht, Hg⟩, HB⟩, HG, Hk⟩
    iapply (Rounds.wp_signal 𝒱₀ EM (talk m ρ) (c : Thread nD τ) none (dst := (j : Thread nD τ)) (κ := K (j, iBar)) (r := 0)
        (d := c) (by rw [duties_bar]; exact Finset.mem_filter.mpr ⟨Finset.mem_univ _, fun e => hjc e.symm⟩) rfl ()
        (owesRecv c 0 + owesBar c (j.val + 1)) (by rw [add_assoc])) $$ [HO Ht Hg]
    · isplitr; · iapply (shared_inv m ρ K (j, iBar)); iexact HS
      isplitl [HO]; · iexact HO
      isplitl [Ht]; · iexact Ht
      isplitl [Hg]; · rw [payload_bar]; iexact Hg
      iapply (shared_reached m ρ K (j, iBar)); iexact HS
    iintro HO
    iapply Hk
    isplitr [HG]
    · isplitr; · iexact HS
      isplitl [HO]; · iexists W; iexact HO
      iexact HB
    · iexact HG

theorem wait_form {α : Type} (k : PUnit → Pg F α) : (semWaitWord barS 15#32 >>= k) = .op (.semWait barS ((15 : ℕ) : ℤ)) k := rfl

/-- All peers have greeted: their landing blocks for `c` are here. -/
theorem step_met {α : Type} {Q : α → sProp 𝕄} {G : sProp 𝕄} {k : PUnit → Pg F α}
    (h : iprop((shared m ρ K ∗ owe c (owesRecv c 0) ∗ (bigSep Finset.univ fun k : Fin 15 => gAny (dst c k) c)) ∗ atPos EM (barCell c) 1 ∅ 0 ∗ G) ⊢ runs c (k ⟨⟩) Q) :
    iprop(Greet m ρ K c 16 ∗ cred (tallyAt (barCell c) () 15) ∗ atPos EM (barCell c) 0 ∅ 0 ∗ G) ⊢ runs c (semWaitWord barS 15#32 >>= k) Q := by
  unfold Greet owe
  rw [wait_form, owesBar_none, add_zero, bigSep_rangeSet_empty le_rfl]
  iintro ⟨⟨#HS, ⟨%W, HO⟩, -⟩, Hc, Ha, HG⟩
  iapply (Rounds.wp_wait_rest_token 𝒱₀ EM (talk m ρ) (c : Thread nD τ) none (κ := K (c, iBar))
      (wpE_semWait_eq 𝒱₀ (c : Thread nD τ) none Set.univ) (Set.mem_univ _) () (O := owesRecv c 0) (W := W) (R := 0) (m := 0) (T := ∅)
      (by rw [expect_bar])) $$ [Hc HO Ha]
  · isplitr; · iapply (shared_inv m ρ K (c, iBar)); iexact HS
    isplitl [Hc]; · iexact Hc
    isplitl [HO]; · iexact HO
    isplitr; · iapply (mayWait_bar c); iapply (shared_lev m ρ K); iexact HS
    iexact Ha
  iintro ⟨HO, Ha, -, Hp⟩
  ihave Hp := (Entails.of_eq (rest_bar m ρ c)) $$ Hp
  iapply h
  unfold owe
  isplitl [HO Hp]
  · isplitr; · iexact HS
    isplitl [HO]; · iexists _; iexact HO
    iexact Hp
  isplitl [Ha] <;> iassumption

/-! ## Copies -/

/-- Starting the copy to a target. -/
theorem step_send {α : Type} {Q : α → sProp 𝕄} {G : sProp 𝕄} (k : Fin 15) {offL offG : Fin 2 → ℕ} {pL : ∀ i, offL i + S64x64.size i ≤ S1024x64.size i} {pG : ∀ i, offG i + S64x64.size i ≤ S1024x64.size i}
    {sS sR : DmaSem sig} {dv : ℕ} {hlt : dv < nD} (hL : offL = ![64 * (dst c k).val, 0]) (hG : offG = ![64 * c.val, 0])
    (hS : sS = dsem 0 k.castSucc) (hR : sR = dsem 1 c) (hd : dv = (dst c k).val)
    {hsc : (gM.slice (Rect.unit (s := S1024x64) offG S64x64.size pG) (fun _ => rfl)).view.ref.isScScratch = false}
    {hsrc : (lM.slice (Rect.unit (s := S1024x64) offL S64x64.size pL) (fun _ => rfl)).view.WordExact}
    {hdst : (gM.slice (Rect.unit (s := S1024x64) offG S64x64.size pG) (fun _ => rfl)).view.WordExact}
    {hsem : DmaTarget.Typed .vmem (.dma sR) (.remote (Dev.tc (⟨dv, hlt⟩ : Dev nD) : Thread nD τ) (gM.slice (Rect.unit (s := S1024x64) offG S64x64.size pG) (fun _ => rfl)) (.dma sS) hsc)}
    {kk : PUnit → Pg F α} (h : iprop(Send m ρ K c (k.val + 1) ∗ G) ⊢ runs c (kk ⟨⟩) Q) :
    iprop(Send m ρ K c k.val ∗ G)
      ⊢ runs c (Prog.lift (.enqueueDma (lM.slice (Rect.unit (s := S1024x64) offL S64x64.size pL) (fun _ => rfl))
          (.remote (Dev.tc (⟨dv, hlt⟩ : Dev nD) : Thread nD τ) (gM.slice (Rect.unit (s := S1024x64) offG S64x64.size pG) (fun _ => rfl)) (.dma sS) hsc)
          (.dma sR) hsrc hdst hsem) >>= kk) Q := by
  subst hL hG hS hR hd
  rw [lift_bind]
  refine BIBase.Entails.trans ?_ (show iprop(Send m ρ K c k.val ∗ G ∗ (iprop(Send m ρ K c (k.val + 1) ∗ G) -∗ runs c (kk ⟨⟩) Q)) ⊢ _ from ?_)
  · iintro ⟨HA, HG⟩
    isplitl [HA]; · iexact HA
    isplitl [HG]; · iexact HG
    iintro H; iapply h; iexact H
  unfold Send
  rw [run_head k, run_last k, owesRecv_head c k]
  unfold owe sendPart gAny gAt lAt
  iintro ⟨⟨#HS, ⟨%W, HO⟩, ⟨⟨⟨%f, Hg⟩, Hl, Ht1, Ht2⟩, HB⟩, HC⟩, HG, Hk⟩
  iapply (Rounds.wp_send_pointsTo 𝒱₀ EM (talk m ρ) (c : Thread nD τ) none (κ₁ := K (c, iSend k)) (κ₂ := K (dst c k, iRecv c))
      (r₁ := 0) (r₂ := 0) (d₁ := 0) (d₂ := 0) (fd := f)
      (by rw [duties_send]; exact Finset.mem_singleton_self _) (by rw [duties_recv m ρ (dst c k) c (dst_ne c k).symm]; exact Finset.mem_singleton_self _)
      () () N rfl rfl rfl (owesRecv c (k.val + 1)) rfl (W := W)
      (by rw [payload_send]; exact BI.Entails.refl _)
      (by rw [payload_recv]; exact Entails.of_eq (land_eq m ρ (dst c k) c f))) $$ [Hl Hg HO Ht1 Ht2]
  · isplitr; · iapply (shared_inv m ρ K (c, iSend k)); iexact HS
    isplitr; · iapply (shared_inv m ρ K (dst c k, iRecv c)); iexact HS
    isplitl [Hl]; · iexact Hl
    isplitl [Hg]; · iexact Hg
    isplitl [HO]; · iexact HO
    isplitl [Ht1]; · iexact Ht1
    isplitr; · iapply (shared_reached m ρ K (c, iSend k)); iexact HS
    isplitl [Ht2]; · iexact Ht2
    iapply (shared_reached m ρ K (dst c k, iRecv c)); iexact HS
  iintro ⟨Hc, HO⟩
  iapply Hk
  isplitr [HG]
  · isplitr; · iexact HS
    isplitl [HO]; · iexists W; iexact HO
    isplitl [HB]; · iexact HB
    isplitl [Hc] <;> iassumption
  · iexact HG

/-! ## Waits for the copies' completions -/

/-- Waiting for a source's block to land. -/
theorem step_recv {α : Type} {Q : α → sProp 𝕄} {G : sProp 𝕄} (k : Fin 15) {sR : DmaSem sig} (hR : sR = dsem 1 (src c k)) {offG : Fin 2 → ℕ} {pG : ∀ i, offG i + S64x64.size i ≤ S1024x64.size i}
    {sM : Memref sig .tc .vmem S64x64 .bf16} {hs : sM.view.WordExact} {hd : (gM.slice (Rect.unit (s := S1024x64) offG S64x64.size pG) (fun _ => rfl)).view.WordExact}
    {kk : PUnit → Pg F α} (h : iprop(Recv m ρ K c (k.val + 1) ∗ G) ⊢ runs c (kk ⟨⟩) Q) :
    iprop(Recv m ρ K c k.val ∗ G)
      ⊢ runs c (Prog.lift (.waitDma2 sR sM (gM.slice (Rect.unit (s := S1024x64) offG S64x64.size pG) (fun _ => rfl)) hs hd) >>= kk) Q := by
  subst hR
  rw [lift_bind]
  refine BIBase.Entails.trans ?_ (show iprop(Recv m ρ K c k.val ∗ G ∗ (iprop(Recv m ρ K c (k.val + 1) ∗ G) -∗ runs c (kk ⟨⟩) Q)) ⊢ _ from ?_)
  · iintro ⟨HA, HG⟩
    isplitl [HA]; · iexact HA
    isplitl [HG]; · iexact HG
    iintro H; iapply h; iexact H
  unfold Recv
  rw [run_head k, run_last k]
  unfold owe recvPart recvDone
  iintro ⟨⟨#HS, ⟨%W, HO⟩, ⟨⟨Hc, Ha⟩, HB⟩, HC⟩, HG, Hk⟩
  iapply (Rounds.wp_wait_rest_token 𝒱₀ EM (talk m ρ) (c : Thread nD τ) none (κ := K (c, iRecv (src c k)))
      (wpE_waitDma2_eq 𝒱₀ (c : Thread nD τ) none Set.univ) (Set.mem_univ _) () (O := 0) (W := W) (R := 0) (m := 0) (T := ∅)
      (by rw [expect_recv m ρ c _ (src_ne c k), Nat.zero_add]; rfl)) $$ [Hc HO Ha]
  · isplitr; · iapply (shared_inv m ρ K (c, iRecv (src c k))); iexact HS
    isplitl [Hc]; · iexact Hc
    isplitl [HO]; · iexact HO
    isplitr; · rw [MayWait_zero]; iempintro
    iexact Ha
  iintro ⟨HO, Ha, -, Hp⟩
  ihave Hp := (Entails.of_eq (rest_recv m ρ c _ (src_ne c k))) $$ Hp
  iapply Hk
  isplitr [HG]
  · isplitr; · iexact HS
    isplitl [HO]; · iexists _; iexact HO
    isplitl [HB]; · iexact HB
    isplitl [Ha Hp]
    · isplitl [Ha] <;> iassumption
    · iexact HC
  · iexact HG

/-- Waiting for a copy to have left. -/
theorem step_back {α : Type} {Q : α → sProp 𝕄} {G : sProp 𝕄} (k : Fin 15) {sS : DmaSem sig} (hS : sS = dsem 0 k.castSucc) {offL : Fin 2 → ℕ} {pL : ∀ i, offL i + S64x64.size i ≤ S1024x64.size i}
    {sM : Memref sig .tc .vmem S64x64 .bf16} {hs : sM.view.WordExact} {hd : (lM.slice (Rect.unit (s := S1024x64) offL S64x64.size pL) (fun _ => rfl)).view.WordExact}
    {kk : PUnit → Pg F α} (h : iprop(Back m ρ K c (k.val + 1) ∗ G) ⊢ runs c (kk ⟨⟩) Q) :
    iprop(Back m ρ K c k.val ∗ G)
      ⊢ runs c (Prog.lift (.waitDma2 sS sM (lM.slice (Rect.unit (s := S1024x64) offL S64x64.size pL) (fun _ => rfl)) hs hd) >>= kk) Q := by
  subst hS
  rw [lift_bind]
  refine BIBase.Entails.trans ?_ (show iprop(Back m ρ K c k.val ∗ G ∗ (iprop(Back m ρ K c (k.val + 1) ∗ G) -∗ runs c (kk ⟨⟩) Q)) ⊢ _ from ?_)
  · iintro ⟨HA, HG⟩
    isplitl [HA]; · iexact HA
    isplitl [HG]; · iexact HG
    iintro H; iapply h; iexact H
  unfold Back
  rw [run_head k, run_last k]
  unfold owe backPart backDone
  iintro ⟨⟨#HS, ⟨%W, HO⟩, ⟨⟨Hc, Ha⟩, HB⟩, HC⟩, HG, Hk⟩
  iapply (Rounds.wp_wait_rest_token 𝒱₀ EM (talk m ρ) (c : Thread nD τ) none (κ := K (c, iSend k))
      (wpE_waitDma2_eq 𝒱₀ (c : Thread nD τ) none Set.univ) (Set.mem_univ _) () (O := 0) (W := W) (R := 0) (m := 0) (T := ∅)
      (by rw [expect_send, Nat.zero_add]; rfl)) $$ [Hc HO Ha]
  · isplitr; · iapply (shared_inv m ρ K (c, iSend k)); iexact HS
    isplitl [Hc]; · iexact Hc
    isplitl [HO]; · iexact HO
    isplitr; · rw [MayWait_zero]; iempintro
    iexact Ha
  iintro ⟨HO, Ha, -, Hp⟩
  ihave Hp := (Entails.of_eq (rest_send m ρ c k)) $$ Hp
  iapply Hk
  isplitr [HG]
  · isplitr; · iexact HS
    isplitl [HO]; · iexists _; iexact HO
    isplitl [HB]; · iexact HB
    isplitl [Ha Hp]
    · isplitl [Ha] <;> iassumption
    · iexact HC
  · iexact HG

/-! ## Loads -/

/-- Whatever holds the elements a load reads lets it run, at the contents it holds them at. -/
theorem step_load {α : Type} {Q : α → sProp 𝕄} {s : Shape} {e : EltTy} {M : Memref sig .tc .vmem s e} {r : LoadRect s} {hl : M.view.LoadsAt r}
    {S : Finset (Idx (M.view.loc (c : Thread nD τ)))} {f : Buf (Elt F) (M.view.loc (c : Thread nD τ))} {P : sProp 𝕄}
    (hS : M.view.setOn r.set ⊆ S) (hP : P ⊢ iprop((M.view.loc (c : Thread nD τ) ↦[S]{fullShare} f) ∗ ((M.view.loc (c : Thread nD τ) ↦[S]{fullShare} f) -∗ P)))
    {k : (r.shape.Idx → Elt F e) → Pg F α} {v : r.shape.Idx → Elt F e} (hv : M.view.readAt (Elt F) r f = v) (h : P ⊢ runs c (k v) Q) :
    P ⊢ runs c (Prog.lift (.load M r hl) >>= k) Q := by
  subst hv
  rw [lift_bind]
  refine hP.trans ?_
  iintro ⟨Hf, HP⟩
  iapply (wp_load 𝒱₀ (c : Thread nD τ) none Set.univ (m := M) hS) $$ Hf
  iintro Hf
  iapply h
  iapply HP; iexact Hf

/-- Storing into a buffer. -/
theorem step_store {α : Type} {Q : α → sProp 𝕄} {G : sProp 𝕄} {s : Shape} {e : EltTy} {M : Memref sig .tc .vmem s e} {r : Rect s} {w : r.shape.Idx → Elt F e}
    {hx : (M.access r).Stores Finset.univ} {hm : Finset.univ = (Finset.univ : Finset r.shape.Idx) ∨ ∀ a, r.stride a = 1}
    {f g : Buf (Elt F) (M.view.loc (c : Thread nD τ))} (hg : (M.access r).write (Elt F) f w Finset.univ = g)
    {k : PUnit → Pg F α} (h : iprop((M.view.loc (c : Thread nD τ) ↦{fullShare} g) ∗ G) ⊢ runs c (k ⟨⟩) Q) :
    iprop((M.view.loc (c : Thread nD τ) ↦{fullShare} f) ∗ G) ⊢ runs c (Prog.lift (.store M r w Finset.univ hx hm) >>= k) Q := by
  subst hg
  rw [lift_bind]
  iintro ⟨Hf, HG⟩
  iapply (wp_store 𝒱₀ (c : Thread nD τ) none Set.univ (m := M) (r := r) (Mk := Finset.univ) (Finset.subset_univ _)) $$ Hf
  iintro Hf
  iapply h
  isplitl [Hf] <;> iassumption

/-- One of several things held, taken and given back. -/
theorem take1 (X G : sProp 𝕄) : iprop(X ∗ G) ⊢ iprop(X ∗ (X -∗ (X ∗ G))) := by
  iintro ⟨HX, HG⟩
  isplitl [HX]; · iexact HX
  iintro HX
  isplitl [HX] <;> iassumption
/-- Two resources exchanged. -/
theorem swap (P X G : sProp 𝕄) : iprop(P ∗ X ∗ G) ⊢ iprop(X ∗ P ∗ G) := by
  iintro ⟨HP, HX, HG⟩
  isplitl [HX]; · iexact HX
  isplitl [HP] <;> iassumption

/-- The weights' scratch copy, whole. -/
def vAt : sProp 𝕄 := ((c : Thread nD τ).loc cc0_scratch1) ↦{fullShare} vV m ρ c

/-- Loading a block that has landed. -/
theorem step_load_land {α : Type} {Q : α → sProp 𝕄} {G : sProp 𝕄} (k : Fin 15) {n : ℕ} (hk : k.val < n) {off : Fin 2 → ℕ} (ho : off = ![64 * (src c k).val, 0])
    {p : ∀ i, off i + S64x64.size i ≤ S1024x64.size i} {hl : (gM).view.LoadsAt (Rect.unit (s := S1024x64) off S64x64.size p).toLoadRect}
    {kk : (S64x64.Idx → Elt F .bf16) → Pg F α} (h : iprop(Recv m ρ K c n ∗ G) ⊢ runs c (kk (xrow m ρ (src c k) c)) Q) :
    iprop(Recv m ρ K c n ∗ G) ⊢ runs c (Prog.lift (.load gM (Rect.unit (s := S1024x64) off S64x64.size p).toLoadRect hl) >>= kk) Q := by
  subst ho
  refine step_load (F := F) c (M := gM) (S := (gB (src c k)).view.set) (f := gV m ρ c (src c k)) (Q := Q) ?_ ?_ (gV_read m ρ c (src c k)) h
  · show (gM).view.setOn (rows (src c k)).set ⊆ ((gM).view.slice (rows (src c k))).set
    rw [View.set_slice]; exact Finset.Subset.refl _
  · unfold Recv
    have e : bigSep (rangeSet 15 0 n) (recvDone m ρ c) = iprop(recvDone m ρ c k ∗ bigSep ((rangeSet 15 0 n).erase k) (recvDone m ρ c)) :=
      BI.bigSep_erase ((mem_rangeSet 0 n k).mpr ⟨Nat.zero_le _, hk⟩)
    rw [e]
    unfold recvDone gLand gAt
    iintro ⟨⟨HS, HO, HB, ⟨Ha, Hg⟩, HC⟩, HG⟩
    isplitl [Hg]; · iexact Hg
    iintro Hg
    isplitr [HG]
    · isplitl [HS]; · iexact HS
      isplitl [HO]; · iexact HO
      isplitl [HB]; · iexact HB
      isplitl [Ha Hg]
      · isplitl [Ha] <;> iassumption
      · iexact HC
    · iexact HG

/-- Loading rows of the bf16 `w_mat`. -/
theorem step_load_w {α : Type} {Q : α → sProp 𝕄} {G : sProp 𝕄} (b : Dev nD) {P : sProp 𝕄} {off : Fin 2 → ℕ} (ho : off = ![64 * b.val, 0])
    {p : ∀ i, off i + S64x1024.size i ≤ S1024x1024.size i} {hl : (vM).view.LoadsAt (Rect.unit (s := S1024x1024) off S64x1024.size p).toLoadRect}
    {kk : (S64x1024.Idx → Elt F .bf16) → Pg F α} (h : iprop(P ∗ vAt m ρ c ∗ G) ⊢ runs c (kk (wrow m ρ c b)) Q) :
    iprop(P ∗ vAt m ρ c ∗ G) ⊢ runs c (Prog.lift (.load vM (Rect.unit (s := S1024x1024) off S64x1024.size p).toLoadRect hl) >>= kk) Q := by
  subst ho
  refine step_load (F := F) c (M := vM) (S := Finset.univ) (f := vV m ρ c) (Q := Q) (Finset.subset_univ _) ?_ rfl h
  unfold vAt
  iintro ⟨HP, Hv, HG⟩
  isplitl [Hv]; · iexact Hv
  iintro Hv
  isplitl [HP]; · iexact HP
  isplitl [Hv] <;> iassumption

/-- Loading the device's own block. -/
theorem step_load_own {α : Type} {Q : α → sProp 𝕄} {G : sProp 𝕄} {P P' : sProp 𝕄} {off : Fin 2 → ℕ} (ho : off = ![64 * c.val, 0])
    {p : ∀ i, off i + S64x64.size i ≤ S1024x64.size i} {hl : (lM).view.LoadsAt (Rect.unit (s := S1024x64) off S64x64.size p).toLoadRect}
    {kk : (S64x64.Idx → Elt F .bf16) → Pg F α} (h : iprop(P ∗ P' ∗ lAt m ρ c c ∗ G) ⊢ runs c (kk (xrow m ρ c c)) Q) :
    iprop(P ∗ P' ∗ lAt m ρ c c ∗ G) ⊢ runs c (Prog.lift (.load lM (Rect.unit (s := S1024x64) off S64x64.size p).toLoadRect hl) >>= kk) Q := by
  subst ho
  refine step_load (F := F) c (M := lM) (S := (lB c).view.set) (f := lV m ρ c) (Q := Q) ?_ ?_ rfl h
  · show (lM).view.setOn (rows c).set ⊆ ((lM).view.slice (rows c)).set
    rw [View.set_slice]; exact Finset.Subset.refl _
  · unfold lAt
    iintro ⟨HP, HP', Hl, HG⟩
    isplitl [Hl]; · iexact Hl
    iintro Hl
    isplitl [HP]; · iexact HP
    isplitl [HP']; · iexact HP'
    isplitl [Hl] <;> iassumption

end

end Cert.KernelIdeal.Mesh
-- ==== Proof.KernelIdeal.Copies.lean ====
/-
The kernel's parts up to the last copy: the greetings, the wait for all peers, the sixteen copies less its own.
-/
module

public import proofs.«01_k».proof.Proof.KernelIdeal.Steps

@[expose] public section

set_option maxRecDepth 65536

noncomputable section

namespace Cert.KernelIdeal.Mesh

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CI → ℕ) (c : Dev nD)

/-! ## Which peers are greeted -/

/-- The printed conditions of the signals: peer `j` is signalled by every device but itself. -/
theorem cond1 (c : Dev nD) : k0_cond1 c = 1#1 ↔ (0 : Dev nD) ≠ c := by revert c; decide
theorem cond2 (c : Dev nD) : k0_cond2 c = 1#1 ↔ (1 : Dev nD) ≠ c := by revert c; decide
theorem cond3 (c : Dev nD) : k0_cond3 c = 1#1 ↔ (2 : Dev nD) ≠ c := by revert c; decide
theorem cond4 (c : Dev nD) : k0_cond4 c = 1#1 ↔ (3 : Dev nD) ≠ c := by revert c; decide
theorem cond5 (c : Dev nD) : k0_cond5 c = 1#1 ↔ (4 : Dev nD) ≠ c := by revert c; decide
theorem cond6 (c : Dev nD) : k0_cond6 c = 1#1 ↔ (5 : Dev nD) ≠ c := by revert c; decide
theorem cond7 (c : Dev nD) : k0_cond7 c = 1#1 ↔ (6 : Dev nD) ≠ c := by revert c; decide
theorem cond8 (c : Dev nD) : k0_cond8 c = 1#1 ↔ (7 : Dev nD) ≠ c := by revert c; decide
theorem cond9 (c : Dev nD) : k0_cond9 c = 1#1 ↔ (8 : Dev nD) ≠ c := by revert c; decide
theorem cond10 (c : Dev nD) : k0_cond10 c = 1#1 ↔ (9 : Dev nD) ≠ c := by revert c; decide
theorem cond11 (c : Dev nD) : k0_cond11 c = 1#1 ↔ (10 : Dev nD) ≠ c := by revert c; decide
theorem cond12 (c : Dev nD) : k0_cond12 c = 1#1 ↔ (11 : Dev nD) ≠ c := by revert c; decide
theorem cond13 (c : Dev nD) : k0_cond13 c = 1#1 ↔ (12 : Dev nD) ≠ c := by revert c; decide
theorem cond14 (c : Dev nD) : k0_cond14 c = 1#1 ↔ (13 : Dev nD) ≠ c := by revert c; decide
theorem cond15 (c : Dev nD) : k0_cond15 c = 1#1 ↔ (14 : Dev nD) ≠ c := by revert c; decide
theorem cond16 (c : Dev nD) : k0_cond16 c = 1#1 ↔ (15 : Dev nD) ≠ c := by revert c; decide

/-! ## Whole buffers -/

theorem hz : (![0, 0] : Fin 2 → ℕ) = fun _ => 0 := funext fun a => by fin_cases a <;> rfl

/-- The staged copies of `x`'s columns and of the weights. -/
def xAt : sProp 𝕄 := ((c : Thread nD τ).loc cc0_stg0_0) ↦{fullShare} xstg m ρ c
/-- The staged `w_mat`. -/
def wAt : sProp 𝕄 := ((c : Thread nD τ).loc cc0_stg1_0) ↦{fullShare} wstg m ρ c
/-- The scratch copy of `x`'s columns, whole, filled; and a scratch buffer at any contents. -/
def lAll : sProp 𝕄 := ((c : Thread nD τ).loc cc0_scratch0) ↦{fullShare} lV m ρ c

theorem take3 (A B X G : sProp 𝕄) : iprop(A ∗ B ∗ X ∗ G) ⊢ iprop(X ∗ (X -∗ (A ∗ B ∗ X ∗ G))) := by
  iintro ⟨HA, HB, HX, HG⟩
  isplitl [HX]; · iexact HX
  iintro HX
  isplitl [HA]; · iexact HA
  isplitl [HB]; · iexact HB
  isplitl [HX] <;> iassumption
theorem take4 (A B C X G : sProp 𝕄) : iprop(A ∗ B ∗ C ∗ X ∗ G) ⊢ iprop(X ∗ (X -∗ (A ∗ B ∗ C ∗ X ∗ G))) := by
  iintro ⟨HA, HB, HC, HX, HG⟩
  isplitl [HX]; · iexact HX
  iintro HX
  isplitl [HA]; · iexact HA
  isplitl [HB]; · iexact HB
  isplitl [HC]; · iexact HC
  isplitl [HX] <;> iassumption

/-! ## Greetings -/

set_option maxHeartbeats 2000000 in
theorem part1 {Q : _ → sProp 𝕄} {G : sProp 𝕄} (f : Buf (Elt F) ((c : Thread nD τ).loc cc0_scratch0))
    (h : ∀ v w, iprop(Greet m ρ K c 7 ∗ lAll m ρ c ∗ xAt m ρ c ∗ G) ⊢ Q ⟨c, v, SemArray.scalar (sig.barrier 0 rfl), w⟩) :
    iprop((((c : Thread nD τ).loc cc0_scratch0) ↦{fullShare} f) ∗ Greet m ρ K c 0 ∗ xAt m ρ c ∗ G) ⊢ runs c (k0_part1 xM (Memref.isWhole_whole _) wM (Memref.isWhole_whole _) oM (Memref.isWhole_whole _) lM (Memref.isWhole_whole _) vM (Memref.isWhole_whole _) gM (Memref.isWhole_whole _) cc0_scratch3 cc0_scratch4) Q := by
  rw [k0_part1_eq_skeleton]; unfold k0_part1_skel
  refine step_deviceId ?_
  refine step_load c (M := xM) (S := Finset.univ) (f := xstg m ρ c) (Finset.subset_univ _) (take3 _ _ _ _) (Memref.readAt_unit_zero (Elt F) cc0_stg0_0 hz _ _) ?_
  refine step_load c (M := lM) (S := Finset.univ) (f := f) (Finset.subset_univ _) (take1 _ _) rfl ?_
  refine step_store c (M := lM) (g := lV m ρ c) (by exact Memref.write_access_unit_zero_univ (Elt F) cc0_scratch0 hz _ _ _) ?_
  refine (swap _ _ _).trans ?_
  refine step_greet m ρ K c 0 (hlt := k0_dev1_lt c) (cond1 c) k0_dev1_eq ?_
  refine step_greet m ρ K c 1 (hlt := k0_dev2_lt c) (cond2 c) k0_dev2_eq ?_
  refine step_greet m ρ K c 2 (hlt := k0_dev3_lt c) (cond3 c) k0_dev3_eq ?_
  refine step_greet m ρ K c 3 (hlt := k0_dev4_lt c) (cond4 c) k0_dev4_eq ?_
  refine step_greet m ρ K c 4 (hlt := k0_dev5_lt c) (cond5 c) k0_dev5_eq ?_
  refine step_greet m ρ K c 5 (hlt := k0_dev6_lt c) (cond6 c) k0_dev6_eq ?_
  refine step_greet m ρ K c 6 (hlt := k0_dev7_lt c) (cond7 c) k0_dev7_eq ?_
  exact runs_pure (h _ _)

set_option maxHeartbeats 4000000 in
theorem part2 {Q : _ → sProp 𝕄} {G : sProp 𝕄} (v2 w : BitVec 32)
    (h : ∀ v, iprop((shared m ρ K ∗ owe c (owesRecv c 0) ∗ (bigSep Finset.univ fun k : Fin 15 => gAny (dst c k) c)) ∗ atPos EM (barCell c) 1 ∅ 0 ∗ G) ⊢ Q v) :
    iprop(Greet m ρ K c 7 ∗ cred (tallyAt (barCell c) () 15) ∗ atPos EM (barCell c) 0 ∅ 0 ∗ G)
      ⊢ runs c (k0_part2 xM (Memref.isWhole_whole _) wM (Memref.isWhole_whole _) oM (Memref.isWhole_whole _) lM (Memref.isWhole_whole _) vM (Memref.isWhole_whole _) gM (Memref.isWhole_whole _) cc0_scratch3 cc0_scratch4 c v2 (SemArray.scalar (sig.barrier 0 rfl)) w) Q := by
  rw [k0_part2_eq_skeleton]; unfold k0_part2_skel
  refine step_greet m ρ K c 7 (hlt := k0_dev8_lt c) (cond8 c) k0_dev8_eq ?_
  refine step_greet m ρ K c 8 (hlt := k0_dev9_lt c) (cond9 c) k0_dev9_eq ?_
  refine step_greet m ρ K c 9 (hlt := k0_dev10_lt c) (cond10 c) k0_dev10_eq ?_
  refine step_greet m ρ K c 10 (hlt := k0_dev11_lt c) (cond11 c) k0_dev11_eq ?_
  refine step_greet m ρ K c 11 (hlt := k0_dev12_lt c) (cond12 c) k0_dev12_eq ?_
  refine step_greet m ρ K c 12 (hlt := k0_dev13_lt c) (cond13 c) k0_dev13_eq ?_
  refine step_greet m ρ K c 13 (hlt := k0_dev14_lt c) (cond14 c) k0_dev14_eq ?_
  refine step_greet m ρ K c 14 (hlt := k0_dev15_lt c) (cond15 c) k0_dev15_eq ?_
  refine step_greet m ρ K c 15 (hlt := k0_dev16_lt c) (cond16 c) k0_dev16_eq ?_
  refine step_met m ρ K c ?_
  exact runs_pure (h _)

/-! ## Copies -/

theorem part3 {Q : _ → sProp 𝕄} {G : sProp 𝕄} (v2 v58 : BitVec 32)
    (h : iprop(Send m ρ K c 2 ∗ G) ⊢ Q ⟨⟩) :
    iprop(Send m ρ K c 0 ∗ G) ⊢ runs c (k0_part3 xM (Memref.isWhole_whole _) wM (Memref.isWhole_whole _) oM (Memref.isWhole_whole _) lM (Memref.isWhole_whole _) vM (Memref.isWhole_whole _) gM (Memref.isWhole_whole _) cc0_scratch3 cc0_scratch4 c v2 v58) Q := by
  rw [k0_part3_eq_skeleton]; unfold k0_part3_skel
  refine step_send m ρ K c 0 (k0_off3_eq c 0) (k0_off2_eq c) (send_sem _ 0 rfl _) (recv_sem _ c (k0_off1_eq c) _) (k0_dev17_eq c) ?_
  refine step_send m ρ K c 1 (k0_off3_eq c 1) (k0_off2_eq c) (send_sem _ 1 rfl _) (recv_sem _ c (k0_off1_eq c) _) (k0_dev18_eq c) ?_
  exact runs_pure h

theorem part4 {Q : _ → sProp 𝕄} {G : sProp 𝕄} (v2 : BitVec 32)
    (h : iprop(Send m ρ K c 5 ∗ G) ⊢ Q ⟨⟩) :
    iprop(Send m ρ K c 2 ∗ G) ⊢ runs c (k0_part4 xM (Memref.isWhole_whole _) wM (Memref.isWhole_whole _) oM (Memref.isWhole_whole _) lM (Memref.isWhole_whole _) vM (Memref.isWhole_whole _) gM (Memref.isWhole_whole _) cc0_scratch3 cc0_scratch4 c v2) Q := by
  rw [k0_part4_eq_skeleton]; unfold k0_part4_skel
  refine step_send m ρ K c 2 (k0_off3_eq c 2) (k0_off2_eq c) (send_sem _ 2 rfl _) (recv_sem _ c (k0_off1_eq c) _) (k0_dev19_eq c) ?_
  refine step_send m ρ K c 3 (k0_off3_eq c 3) (k0_off2_eq c) (send_sem _ 3 rfl _) (recv_sem _ c (k0_off1_eq c) _) (k0_dev20_eq c) ?_
  refine step_send m ρ K c 4 (k0_off3_eq c 4) (k0_off2_eq c) (send_sem _ 4 rfl _) (recv_sem _ c (k0_off1_eq c) _) (k0_dev21_eq c) ?_
  exact runs_pure h

theorem part5 {Q : _ → sProp 𝕄} {G : sProp 𝕄} (v2 : BitVec 32)
    (h : ∀ v, iprop(Send m ρ K c 8 ∗ G) ⊢ Q v) :
    iprop(Send m ρ K c 5 ∗ G) ⊢ runs c (k0_part5 xM (Memref.isWhole_whole _) wM (Memref.isWhole_whole _) oM (Memref.isWhole_whole _) lM (Memref.isWhole_whole _) vM (Memref.isWhole_whole _) gM (Memref.isWhole_whole _) cc0_scratch3 cc0_scratch4 c v2) Q := by
  rw [k0_part5_eq_skeleton]; unfold k0_part5_skel
  refine step_send m ρ K c 5 (k0_off3_eq c 5) (k0_off2_eq c) (send_sem _ 5 rfl _) (recv_sem _ c (k0_off1_eq c) _) (k0_dev22_eq c) ?_
  refine step_send m ρ K c 6 (k0_off3_eq c 6) (k0_off2_eq c) (send_sem _ 6 rfl _) (recv_sem _ c (k0_off1_eq c) _) (k0_dev23_eq c) ?_
  refine step_send m ρ K c 7 (k0_off3_eq c 7) (k0_off2_eq c) (send_sem _ 7 rfl _) (recv_sem _ c (k0_off1_eq c) _) (k0_dev24_eq c) ?_
  exact runs_pure (h _)

theorem part6 {Q : _ → sProp 𝕄} {G : sProp 𝕄} (v2 v154 : BitVec 32)
    (h : ∀ v, iprop(Send m ρ K c 11 ∗ G) ⊢ Q v) :
    iprop(Send m ρ K c 8 ∗ G) ⊢ runs c (k0_part6 xM (Memref.isWhole_whole _) wM (Memref.isWhole_whole _) oM (Memref.isWhole_whole _) lM (Memref.isWhole_whole _) vM (Memref.isWhole_whole _) gM (Memref.isWhole_whole _) cc0_scratch3 cc0_scratch4 c v2 v154) Q := by
  rw [k0_part6_eq_skeleton]; unfold k0_part6_skel
  refine step_send m ρ K c 8 (k0_off3_eq c 8) (k0_off2_eq c) (send_sem _ 8 rfl _) (recv_sem _ c (k0_off1_eq c) _) (k0_dev25_eq c) ?_
  refine step_send m ρ K c 9 (k0_off3_eq c 9) (k0_off2_eq c) (send_sem _ 9 rfl _) (recv_sem _ c (k0_off1_eq c) _) (k0_dev26_eq c) ?_
  refine step_send m ρ K c 10 (k0_off3_eq c 10) (k0_off2_eq c) (send_sem _ 10 rfl _) (recv_sem _ c (k0_off1_eq c) _) (k0_dev27_eq c) ?_
  exact runs_pure (h _)

theorem part7 {Q : _ → sProp 𝕄} {G : sProp 𝕄} (v2 v189 : BitVec 32)
    (h : iprop(Send m ρ K c 13 ∗ G) ⊢ Q ⟨⟩) :
    iprop(Send m ρ K c 11 ∗ G) ⊢ runs c (k0_part7 xM (Memref.isWhole_whole _) wM (Memref.isWhole_whole _) oM (Memref.isWhole_whole _) lM (Memref.isWhole_whole _) vM (Memref.isWhole_whole _) gM (Memref.isWhole_whole _) cc0_scratch3 cc0_scratch4 c v2 v189) Q := by
  rw [k0_part7_eq_skeleton]; unfold k0_part7_skel
  refine step_send m ρ K c 11 (k0_off3_eq c 11) (k0_off2_eq c) (send_sem _ 11 rfl _) (recv_sem _ c (k0_off1_eq c) _) (k0_dev28_eq c) ?_
  refine step_send m ρ K c 12 (k0_off3_eq c 12) (k0_off2_eq c) (send_sem _ 12 rfl _) (recv_sem _ c (k0_off1_eq c) _) (k0_dev29_eq c) ?_
  exact runs_pure h

end Cert.KernelIdeal.Mesh
-- ==== Proof.KernelIdeal.Products.lean ====
/-
The kernel's later parts: the products of the sixteen blocks as they land, the output, the waits for the copies sent.
-/
module

public import proofs.«01_k».proof.Proof.KernelIdeal.Copies

@[expose] public section

set_option maxRecDepth 65536

noncomputable section

namespace Cert.KernelIdeal.Mesh

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CI → ℕ) (c : Dev nD)

/-! ## The running sum -/

set_option backward.proofsInPublic true in
/-- The device whose block is consumed at step `n`. -/
def srcN (c : Dev nD) (n : ℕ) : Dev nD := ⟨((c.val + 15) - n) % 16, Nat.mod_lt _ (by decide)⟩
/-- Device `s`'s block of the product, on device `c`. -/
def prod (s : Dev nD) : FVec F S64x1024 .f32 := k0_pay3 (xrow m ρ s c) (wrow m ρ c s)
/-- The sum after `n` landed blocks, its own block first. -/
def acc : ℕ → FVec F S64x1024 .f32
  | 0 => prod m ρ c c
  | n + 1 => addf (acc n) (prod m ρ c (srcN c n))
/-- What the kernel stores: its last step, over the sum of the others. -/
def outV : (cc0_stg2_0 : Ref sig .tc).ty.Contents (Elt F) :=
  k0_pay12 (acc m ρ c 14) (xrow m ρ (src c 14) c) (wrow m ρ c (src c 14))

theorem rot3 (A B X G : sProp 𝕄) : iprop(A ∗ B ∗ X ∗ G) ⊢ iprop(X ∗ A ∗ B ∗ G) := by
  iintro ⟨HA, HB, HX, HG⟩
  isplitl [HX]; · iexact HX
  isplitl [HA]; · iexact HA
  isplitl [HB] <;> iassumption

/-! ## Its own block -/

theorem part8 {Q : _ → sProp 𝕄} {G : sProp 𝕄} (v2 : BitVec 32) (f : Buf (Elt F) ((c : Thread nD τ).loc cc0_scratch1))
    (h : ∀ v w, iprop(Send m ρ K c 15 ∗ vAt m ρ c ∗ lAt m ρ c c ∗ wAt m ρ c ∗ G) ⊢ Q ⟨acc m ρ c 0, v, w⟩) :
    iprop(Send m ρ K c 13 ∗ (((c : Thread nD τ).loc cc0_scratch1) ↦{fullShare} f) ∗ lAt m ρ c c ∗ wAt m ρ c ∗ G)
      ⊢ runs c (k0_part8 xM (Memref.isWhole_whole _) wM (Memref.isWhole_whole _) oM (Memref.isWhole_whole _) lM (Memref.isWhole_whole _) vM (Memref.isWhole_whole _) gM (Memref.isWhole_whole _) cc0_scratch3 cc0_scratch4 c v2) Q := by
  rw [k0_part8_eq_skeleton]; unfold k0_part8_skel
  refine step_send m ρ K c 13 (k0_off3_eq c 13) (k0_off2_eq c) (send_sem _ 13 rfl _) (recv_sem _ c (k0_off1_eq c) _) (k0_dev30_eq c) ?_
  refine step_send m ρ K c 14 (k0_off3_eq c 14) (k0_off2_eq c) (send_sem _ 14 rfl _) (recv_sem _ c (k0_off1_eq c) _) (k0_dev31_eq c) ?_
  refine (swap _ _ _).trans ?_
  refine step_load c (M := wM) (S := Finset.univ) (f := wstg m ρ c) (Finset.subset_univ _) (take4 _ _ _ _ _) (Memref.readAt_unit_zero (Elt F) cc0_stg1_0 hz _ _) ?_
  refine step_load c (M := vM) (S := Finset.univ) (f := f) (Finset.subset_univ _) (take1 _ _) rfl ?_
  refine step_store c (M := vM) (g := vV m ρ c) (by exact Memref.write_access_unit_zero_univ (Elt F) cc0_scratch1 hz _ _ _) ?_
  refine (swap _ _ _).trans ?_
  refine step_load_own m ρ c (k0_off4_eq c) ?_
  refine step_load_w m ρ c c (k0_off5_eq c) ?_
  exact runs_pure (h _ _)

/-! ## The landed blocks -/

theorem part9 {Q : _ → sProp 𝕄} {G : sProp 𝕄} (v2 : BitVec 32) (v251 : BitVec 32) (c1_i32_169 : BitVec 32)
    (h : ∀ u0, iprop(Recv m ρ K c 2 ∗ vAt m ρ c ∗ G) ⊢ Q ⟨acc m ρ c 2, u0⟩) :
    iprop(Recv m ρ K c 0 ∗ vAt m ρ c ∗ G) ⊢ runs c (k0_part9 xM (Memref.isWhole_whole _) wM (Memref.isWhole_whole _) oM (Memref.isWhole_whole _) lM (Memref.isWhole_whole _) vM (Memref.isWhole_whole _) gM (Memref.isWhole_whole _) cc0_scratch3 cc0_scratch4 c v2 (acc m ρ c 0) v251 c1_i32_169) Q := by
  have e : acc m ρ c 2 = k0_pay4 (acc m ρ c 0) (xrow m ρ (src c 0) c) (wrow m ρ c (src c 0)) (xrow m ρ (src c 1) c) (wrow m ρ c (src c 1)) := rfl
  rw [e] at h
  rw [k0_part9_eq_skeleton]; unfold k0_part9_skel
  refine step_recv m ρ K c 0 (recv_sem _ (src c 0) (k0_off6_eq c 0) _) ?_
  refine step_load_land m ρ K c 0 (by decide) (k0_off8_eq c 0) ?_
  refine step_load_w m ρ c (src c 0) (k0_off9_eq c 0) ?_
  refine step_recv m ρ K c 1 (recv_sem _ (src c 1) (k0_off6_eq c 1) _) ?_
  refine step_load_land m ρ K c 1 (by decide) (k0_off8_eq c 1) ?_
  refine step_load_w m ρ c (src c 1) (k0_off9_eq c 1) ?_
  exact runs_pure (h _)

theorem part10 {Q : _ → sProp 𝕄} {G : sProp 𝕄} (v2 : BitVec 32) (v287 : BitVec 32)
    (h : ∀ u0, iprop(Recv m ρ K c 4 ∗ vAt m ρ c ∗ G) ⊢ Q ⟨acc m ρ c 3, u0, (xrow m ρ (src c 3) c)⟩) :
    iprop(Recv m ρ K c 2 ∗ vAt m ρ c ∗ G) ⊢ runs c (k0_part10 xM (Memref.isWhole_whole _) wM (Memref.isWhole_whole _) oM (Memref.isWhole_whole _) lM (Memref.isWhole_whole _) vM (Memref.isWhole_whole _) gM (Memref.isWhole_whole _) cc0_scratch3 cc0_scratch4 c v2 (acc m ρ c 2) v287) Q := by
  have e : acc m ρ c 3 = k0_pay5 (acc m ρ c 2) (xrow m ρ (src c 2) c) (wrow m ρ c (src c 2)) := rfl
  rw [e] at h
  rw [k0_part10_eq_skeleton]; unfold k0_part10_skel
  refine step_recv m ρ K c 2 (recv_sem _ (src c 2) (k0_off6_eq c 2) _) ?_
  refine step_load_land m ρ K c 2 (by decide) (k0_off8_eq c 2) ?_
  refine step_load_w m ρ c (src c 2) (k0_off9_eq c 2) ?_
  refine step_recv m ρ K c 3 (recv_sem _ (src c 3) (k0_off6_eq c 3) _) ?_
  refine step_load_land m ρ K c 3 (by decide) (k0_off8_eq c 3) ?_
  exact runs_pure (h _)

theorem part11 {Q : _ → sProp 𝕄} {G : sProp 𝕄} (v2 : BitVec 32) (v308 : BitVec 32)
    (h : ∀ u0, iprop(Recv m ρ K c 5 ∗ vAt m ρ c ∗ G) ⊢ Q ⟨acc m ρ c 5, u0⟩) :
    iprop(Recv m ρ K c 4 ∗ vAt m ρ c ∗ G) ⊢ runs c (k0_part11 xM (Memref.isWhole_whole _) wM (Memref.isWhole_whole _) oM (Memref.isWhole_whole _) lM (Memref.isWhole_whole _) vM (Memref.isWhole_whole _) gM (Memref.isWhole_whole _) cc0_scratch3 cc0_scratch4 c v2 (acc m ρ c 3) v308 (xrow m ρ (src c 3) c)) Q := by
  have e : acc m ρ c 5 = k0_pay6 (acc m ρ c 3) (xrow m ρ (src c 3) c) (wrow m ρ c (src c 3)) (xrow m ρ (src c 4) c) (wrow m ρ c (src c 4)) := rfl
  rw [e] at h
  rw [k0_part11_eq_skeleton]; unfold k0_part11_skel
  refine step_load_w m ρ c (src c 3) (k0_off9_eq c 3) ?_
  refine step_recv m ρ K c 4 (recv_sem _ (src c 4) (k0_off6_eq c 4) _) ?_
  refine step_load_land m ρ K c 4 (by decide) (k0_off8_eq c 4) ?_
  refine step_load_w m ρ c (src c 4) (k0_off9_eq c 4) ?_
  exact runs_pure (h _)

theorem part12 {Q : _ → sProp 𝕄} {G : sProp 𝕄} (v2 : BitVec 32) (v346 : BitVec 32)
    (h : ∀ u0 u1, iprop(Recv m ρ K c 7 ∗ vAt m ρ c ∗ G) ⊢ Q ⟨acc m ρ c 7, u0, u1⟩) :
    iprop(Recv m ρ K c 5 ∗ vAt m ρ c ∗ G) ⊢ runs c (k0_part12 xM (Memref.isWhole_whole _) wM (Memref.isWhole_whole _) oM (Memref.isWhole_whole _) lM (Memref.isWhole_whole _) vM (Memref.isWhole_whole _) gM (Memref.isWhole_whole _) cc0_scratch3 cc0_scratch4 c v2 (acc m ρ c 5) v346) Q := by
  have e : acc m ρ c 7 = k0_pay7 (acc m ρ c 5) (xrow m ρ (src c 5) c) (wrow m ρ c (src c 5)) (xrow m ρ (src c 6) c) (wrow m ρ c (src c 6)) := rfl
  rw [e] at h
  rw [k0_part12_eq_skeleton]; unfold k0_part12_skel
  refine step_recv m ρ K c 5 (recv_sem _ (src c 5) (k0_off6_eq c 5) _) ?_
  refine step_load_land m ρ K c 5 (by decide) (k0_off8_eq c 5) ?_
  refine step_load_w m ρ c (src c 5) (k0_off9_eq c 5) ?_
  refine step_recv m ρ K c 6 (recv_sem _ (src c 6) (k0_off6_eq c 6) _) ?_
  refine step_load_land m ρ K c 6 (by decide) (k0_off8_eq c 6) ?_
  refine step_load_w m ρ c (src c 6) (k0_off9_eq c 6) ?_
  exact runs_pure (h _ _)

theorem part13 {Q : _ → sProp 𝕄} {G : sProp 𝕄} (v2 : BitVec 32) (v384 : BitVec 32) (c64_i32_271 : BitVec 32)
    (h : iprop(Recv m ρ K c 9 ∗ vAt m ρ c ∗ G) ⊢ Q ⟨acc m ρ c 8, (xrow m ρ (src c 8) c), (wrow m ρ c (src c 8))⟩) :
    iprop(Recv m ρ K c 7 ∗ vAt m ρ c ∗ G) ⊢ runs c (k0_part13 xM (Memref.isWhole_whole _) wM (Memref.isWhole_whole _) oM (Memref.isWhole_whole _) lM (Memref.isWhole_whole _) vM (Memref.isWhole_whole _) gM (Memref.isWhole_whole _) cc0_scratch3 cc0_scratch4 c v2 (acc m ρ c 7) v384 c64_i32_271) Q := by
  have e : acc m ρ c 8 = k0_pay8 (acc m ρ c 7) (xrow m ρ (src c 7) c) (wrow m ρ c (src c 7)) := rfl
  rw [e] at h
  rw [k0_part13_eq_skeleton]; unfold k0_part13_skel
  refine step_recv m ρ K c 7 (recv_sem _ (src c 7) (k0_off6_eq c 7) _) ?_
  refine step_load_land m ρ K c 7 (by decide) (k0_off8_eq c 7) ?_
  refine step_load_w m ρ c (src c 7) (k0_off9_eq c 7) ?_
  refine step_recv m ρ K c 8 (recv_sem _ (src c 8) (k0_off6_eq c 8) _) ?_
  refine step_load_land m ρ K c 8 (by decide) (k0_off8_eq c 8) ?_
  refine step_load_w m ρ c (src c 8) (k0_off9_eq c 8) ?_
  exact runs_pure h

theorem part14 {Q : _ → sProp 𝕄} {G : sProp 𝕄} (v2 : BitVec 32)
    (h : ∀ u0, iprop(Recv m ρ K c 11 ∗ vAt m ρ c ∗ G) ⊢ Q ⟨acc m ρ c 10, u0⟩) :
    iprop(Recv m ρ K c 9 ∗ vAt m ρ c ∗ G) ⊢ runs c (k0_part14 xM (Memref.isWhole_whole _) wM (Memref.isWhole_whole _) oM (Memref.isWhole_whole _) lM (Memref.isWhole_whole _) vM (Memref.isWhole_whole _) gM (Memref.isWhole_whole _) cc0_scratch3 cc0_scratch4 c v2 (acc m ρ c 8) (xrow m ρ (src c 8) c) (wrow m ρ c (src c 8))) Q := by
  have e : acc m ρ c 10 = k0_pay9 (acc m ρ c 8) (xrow m ρ (src c 8) c) (wrow m ρ c (src c 8)) (xrow m ρ (src c 9) c) (wrow m ρ c (src c 9)) := rfl
  rw [e] at h
  rw [k0_part14_eq_skeleton]; unfold k0_part14_skel
  refine step_recv m ρ K c 9 (recv_sem _ (src c 9) (k0_off6_eq c 9) _) ?_
  refine step_load_land m ρ K c 9 (by decide) (k0_off8_eq c 9) ?_
  refine step_load_w m ρ c (src c 9) (k0_off9_eq c 9) ?_
  refine step_recv m ρ K c 10 (recv_sem _ (src c 10) (k0_off6_eq c 10) _) ?_
  exact runs_pure (h _)

theorem part15 {Q : _ → sProp 𝕄} {G : sProp 𝕄} (v2 : BitVec 32) (v441 : BitVec 32)
    (h : ∀ u0 u1, iprop(Recv m ρ K c 12 ∗ vAt m ρ c ∗ G) ⊢ Q ⟨acc m ρ c 12, u0, u1⟩) :
    iprop(Recv m ρ K c 11 ∗ vAt m ρ c ∗ G) ⊢ runs c (k0_part15 xM (Memref.isWhole_whole _) wM (Memref.isWhole_whole _) oM (Memref.isWhole_whole _) lM (Memref.isWhole_whole _) vM (Memref.isWhole_whole _) gM (Memref.isWhole_whole _) cc0_scratch3 cc0_scratch4 c v2 (acc m ρ c 10) v441) Q := by
  have e : acc m ρ c 12 = k0_pay10 (acc m ρ c 10) (xrow m ρ (src c 10) c) (wrow m ρ c (src c 10)) (xrow m ρ (src c 11) c) (wrow m ρ c (src c 11)) := rfl
  rw [e] at h
  rw [k0_part15_eq_skeleton]; unfold k0_part15_skel
  refine step_load_land m ρ K c 10 (by decide) (k0_off8_eq c 10) ?_
  refine step_load_w m ρ c (src c 10) (k0_off9_eq c 10) ?_
  refine step_recv m ρ K c 11 (recv_sem _ (src c 11) (k0_off6_eq c 11) _) ?_
  refine step_load_land m ρ K c 11 (by decide) (k0_off8_eq c 11) ?_
  refine step_load_w m ρ c (src c 11) (k0_off9_eq c 11) ?_
  exact runs_pure (h _ _)

theorem part16 {Q : _ → sProp 𝕄} {G : sProp 𝕄} (v2 : BitVec 32) (v479 : BitVec 32) (c1_i32_349 : BitVec 32)
    (h : ∀ u0, iprop(Recv m ρ K c 14 ∗ vAt m ρ c ∗ G) ⊢ Q ⟨acc m ρ c 14, u0⟩) :
    iprop(Recv m ρ K c 12 ∗ vAt m ρ c ∗ G) ⊢ runs c (k0_part16 xM (Memref.isWhole_whole _) wM (Memref.isWhole_whole _) oM (Memref.isWhole_whole _) lM (Memref.isWhole_whole _) vM (Memref.isWhole_whole _) gM (Memref.isWhole_whole _) cc0_scratch3 cc0_scratch4 c v2 (acc m ρ c 12) v479 c1_i32_349) Q := by
  have e : acc m ρ c 14 = k0_pay11 (acc m ρ c 12) (xrow m ρ (src c 12) c) (wrow m ρ c (src c 12)) (xrow m ρ (src c 13) c) (wrow m ρ c (src c 13)) := rfl
  rw [e] at h
  rw [k0_part16_eq_skeleton]; unfold k0_part16_skel
  refine step_recv m ρ K c 12 (recv_sem _ (src c 12) (k0_off6_eq c 12) _) ?_
  refine step_load_land m ρ K c 12 (by decide) (k0_off8_eq c 12) ?_
  refine step_load_w m ρ c (src c 12) (k0_off9_eq c 12) ?_
  refine step_recv m ρ K c 13 (recv_sem _ (src c 13) (k0_off6_eq c 13) _) ?_
  refine step_load_land m ρ K c 13 (by decide) (k0_off8_eq c 13) ?_
  refine step_load_w m ρ c (src c 13) (k0_off9_eq c 13) ?_
  exact runs_pure (h _)

theorem part17 {Q : _ → sProp 𝕄} {G : sProp 𝕄} (v2 w : BitVec 32) (f : Buf (Elt F) ((c : Thread nD τ).loc cc0_stg2_0))
    (h : iprop((((c : Thread nD τ).loc cc0_stg2_0) ↦{fullShare} outV m ρ c) ∗ Recv m ρ K c 15 ∗ vAt m ρ c ∗ G) ⊢ Q ⟨⟩) :
    iprop(Recv m ρ K c 14 ∗ vAt m ρ c ∗ (((c : Thread nD τ).loc cc0_stg2_0) ↦{fullShare} f) ∗ G)
      ⊢ runs c (k0_part17 xM (Memref.isWhole_whole _) wM (Memref.isWhole_whole _) oM (Memref.isWhole_whole _) lM (Memref.isWhole_whole _) vM (Memref.isWhole_whole _) gM (Memref.isWhole_whole _) cc0_scratch3 cc0_scratch4 c v2 (acc m ρ c 14) w) Q := by
  rw [k0_part17_eq_skeleton]; unfold k0_part17_skel
  refine step_recv m ρ K c 14 (recv_sem _ (src c 14) (k0_off6_eq c 14) _) ?_
  refine step_load_land m ρ K c 14 (by decide) (k0_off8_eq c 14) ?_
  refine step_load_w m ρ c (src c 14) (k0_off9_eq c 14) ?_
  refine (rot3 _ _ _ _).trans ?_
  refine step_load c (M := oM) (S := Finset.univ) (f := f) (Finset.subset_univ _) (take1 _ _) rfl ?_
  refine step_store c (M := oM) (g := outV m ρ c) (by exact Memref.write_access_unit_zero_univ (Elt F) cc0_stg2_0 hz _ _ _) ?_
  exact runs_pure h

/-! ## The copies sent -/

theorem part18 {Q : _ → sProp 𝕄} {G : sProp 𝕄} (v2 : BitVec 32)
    (h : iprop(Back m ρ K c 3 ∗ G) ⊢ Q ⟨⟩) :
    iprop(Back m ρ K c 0 ∗ G) ⊢ runs c (k0_part18 xM (Memref.isWhole_whole _) wM (Memref.isWhole_whole _) oM (Memref.isWhole_whole _) lM (Memref.isWhole_whole _) vM (Memref.isWhole_whole _) gM (Memref.isWhole_whole _) cc0_scratch3 cc0_scratch4 c v2) Q := by
  rw [k0_part18_eq_skeleton]; unfold k0_part18_skel
  refine step_back m ρ K c 0 (send_sem _ 0 rfl _) ?_
  refine step_back m ρ K c 1 (send_sem _ 1 rfl _) ?_
  refine step_back m ρ K c 2 (send_sem _ 2 rfl _) ?_
  exact runs_pure h

theorem part19 {Q : _ → sProp 𝕄} {G : sProp 𝕄} (v2 : BitVec 32)
    (h : ∀ v, iprop(Back m ρ K c 7 ∗ G) ⊢ Q v) :
    iprop(Back m ρ K c 3 ∗ G) ⊢ runs c (k0_part19 xM (Memref.isWhole_whole _) wM (Memref.isWhole_whole _) oM (Memref.isWhole_whole _) lM (Memref.isWhole_whole _) vM (Memref.isWhole_whole _) gM (Memref.isWhole_whole _) cc0_scratch3 cc0_scratch4 c v2) Q := by
  rw [k0_part19_eq_skeleton]; unfold k0_part19_skel
  refine step_back m ρ K c 3 (send_sem _ 3 rfl _) ?_
  refine step_back m ρ K c 4 (send_sem _ 4 rfl _) ?_
  refine step_back m ρ K c 5 (send_sem _ 5 rfl _) ?_
  refine step_back m ρ K c 6 (send_sem _ 6 rfl _) ?_
  exact runs_pure (h _)

theorem part20 {Q : _ → sProp 𝕄} {G : sProp 𝕄} (v2 c64_i32_453 : BitVec 32)
    (h : iprop(Back m ρ K c 10 ∗ G) ⊢ Q ⟨⟩) :
    iprop(Back m ρ K c 7 ∗ G) ⊢ runs c (k0_part20 xM (Memref.isWhole_whole _) wM (Memref.isWhole_whole _) oM (Memref.isWhole_whole _) lM (Memref.isWhole_whole _) vM (Memref.isWhole_whole _) gM (Memref.isWhole_whole _) cc0_scratch3 cc0_scratch4 c v2 c64_i32_453) Q := by
  rw [k0_part20_eq_skeleton]; unfold k0_part20_skel
  refine step_back m ρ K c 7 (send_sem _ 7 rfl _) ?_
  refine step_back m ρ K c 8 (send_sem _ 8 rfl _) ?_
  refine step_back m ρ K c 9 (send_sem _ 9 rfl _) ?_
  exact runs_pure h

theorem part21 {Q : _ → sProp 𝕄} {G : sProp 𝕄} (v2 : BitVec 32)
    (h : iprop(Back m ρ K c 14 ∗ G) ⊢ Q ⟨⟩) :
    iprop(Back m ρ K c 10 ∗ G) ⊢ runs c (k0_part21 xM (Memref.isWhole_whole _) wM (Memref.isWhole_whole _) oM (Memref.isWhole_whole _) lM (Memref.isWhole_whole _) vM (Memref.isWhole_whole _) gM (Memref.isWhole_whole _) cc0_scratch3 cc0_scratch4 c v2) Q := by
  rw [k0_part21_eq_skeleton]; unfold k0_part21_skel
  refine step_back m ρ K c 10 (send_sem _ 10 rfl _) ?_
  refine step_back m ρ K c 11 (send_sem _ 11 rfl _) ?_
  refine step_back m ρ K c 12 (send_sem _ 12 rfl _) ?_
  refine step_back m ρ K c 13 (send_sem _ 13 rfl _) ?_
  exact runs_pure h

end Cert.KernelIdeal.Mesh
-- ==== Proof.KernelIdeal.Phases.lean ====
/-
A device's cells, dealt out and closed one by one, and its whole body from what the launch gives it to what the launch takes back.
-/
module

public import proofs.«01_k».proof.Proof.KernelIdeal.Products
public import proofs.«01_k».proof.Proof.Gen.KernelIdeal.Launch
public import proofs.«01_k».proof.Proof.Gen.KernelIdeal.Points

@[expose] public section

set_option maxRecDepth 65536

noncomputable section

namespace Cert.KernelIdeal.Mesh

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring

variable {F : FTy → Type} [FloatOps F]

local notation "𝕄" => MT nD τ sig Unit (Elt F) ℕ UU ℕ

variable (m : (ℓ : Loc nD τ sig) → Buf (Elt F) ℓ) (ρ : Dev nD → PrngReg)

/-! ## Families over the devices and over a device's cells -/

/-- A family over a finite type is its value at one index and the family over the others, listed by an embedding. -/
theorem split_at {I J : Type} [Fintype I] [DecidableEq I] [Fintype J] (i : I) (e : J ↪ I) (h : Finset.univ.map e = Finset.univ.erase i) (Φ : I → sProp 𝕄) :
    bigSep Finset.univ Φ = iprop(Φ i ∗ bigSep Finset.univ fun j => Φ (e j)) := by
  refine Eq.trans ?_ (congrArg (fun S => iprop(Φ i ∗ S)) (bigSep_map e))
  rw [h]
  exact BI.bigSep_erase (Finset.mem_univ i)

/-- All devices, as this one and its targets. -/
theorem at_dst (c : Dev nD) (Φ : Dev nD → sProp 𝕄) : bigSep Finset.univ Φ = iprop(Φ c ∗ bigSep Finset.univ fun k : Fin 15 => Φ (dst c k)) :=
  split_at c ⟨dst c, dst_inj c⟩ ((peers_dst c).trans (Finset.filter_ne' _ _)) Φ
/-- All devices, as this one and its sources. -/
theorem at_src (c : Dev nD) (Φ : Dev nD → sProp 𝕄) : bigSep Finset.univ Φ = iprop(Φ c ∗ bigSep Finset.univ fun k : Fin 15 => Φ (src c k)) :=
  split_at c ⟨src c, src_inj c⟩ ((peers_src c).trans (Finset.filter_ne' _ _)) Φ
/-- The send semaphores, as the unused last one and the fifteen others. -/
theorem at_last (Φ : Fin 16 → sProp 𝕄) : bigSep Finset.univ Φ = iprop(Φ 15 ∗ bigSep Finset.univ fun k : Fin 15 => Φ k.castSucc) :=
  split_at 15 ⟨Fin.castSucc, Fin.castSucc_injective 15⟩ (by decide) Φ
theorem own_split (Φ : Fin 2 × Fin 16 → sProp 𝕄) :
    bigSep Finset.univ Φ = iprop((bigSep Finset.univ fun k : Fin 16 => Φ (0, k)) ∗ bigSep Finset.univ fun s : Fin 16 => Φ (1, s)) := by
  rw [bigSep_univ_prod]
  exact bigSep_univ_eq_bigSepL [0, 1] (by decide) (by decide) _
/-- The cells, as the barrier and the copies' semaphores. -/
theorem cells_split (Φ : CI → sProp 𝕄) : bigSep Finset.univ Φ = iprop(Φ iBar ∗ bigSep Finset.univ fun bk => Φ (.inr bk)) := by
  rw [bigSep_univ_sum]
  congr 1
  exact bigSep_univ_eq_bigSepL [()] (by decide) (by decide) _

/-- A device's cells: its barrier, its last send cell (never used), its send cells, its own receive cell (never used), its receive cells. -/
theorem cells_eq (c : Dev nD) (Φ : CI → sProp 𝕄) :
    bigSep Finset.univ Φ = iprop(Φ iBar ∗ (Φ (.inr (0, 15)) ∗ bigSep Finset.univ fun k => Φ (iSend k)) ∗ Φ (iRecv c) ∗ bigSep Finset.univ fun k : Fin 15 => Φ (iRecv (src c k))) := by
  rw [cells_split, own_split, at_last (fun k => Φ (.inr (0, k))), at_src c (fun s => Φ (.inr (1, s)))]

theorem with_shared {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-! ## Closing the cells -/

variable (K : Dev nD × CI → ℕ) (c : Dev nD)

/-- A cell with no rounds to come gives its semaphore back. -/
theorem close_cell (ck : Dev nD × CI) (R : ℕ) (hR : ∀ r ≥ R, (talk m ρ).duties (kcell ck) r = ∅) :
    iprop(shared m ρ K ∗ atPos EM (kcell ck) R ∅ 0) ⊢ |={Set.univ}=> semVal (kcell ck) 0 := by
  iintro ⟨#HS, Ha⟩
  iapply (Rounds.cell_close EM (talk m ρ) (Set.mem_univ (K ck)) (fun h => h) (R := R) hR)
  isplitr; · iapply (shared_inv m ρ K ck); iexact HS
  iexact Ha

/-- All of a device's cells closed: every counter at zero. -/
theorem close_all :
    iprop(shared m ρ K ∗ atPos EM (barCell c) 1 ∅ 0 ∗ (atPos EM (kcell (c, .inr (0, 15))) 0 ∅ 0 ∗ bigSep Finset.univ fun k : Fin 15 => atPos EM (sendCell c k) 1 ∅ 0)
        ∗ atPos EM (recvCell c c) 0 ∅ 0 ∗ bigSep Finset.univ fun k : Fin 15 => atPos EM (recvCell c (src c k)) 1 ∅ 0)
      ⊢ |={Set.univ}=> bigSep Finset.univ fun ci : CI => semVal (kcell (c, ci)) 0 := by
  rw [cells_eq c (fun ci : CI => (semVal (kcell (c, ci)) 0 : sProp 𝕄))]
  iintro ⟨#HS, Hb, ⟨Hl, Hs⟩, Ho, Hr⟩
  imod (close_cell m ρ K (c, iBar) 1 fun r hr => duties_later m ρ _ r hr) $$ [Hb] with Hb
  · isplitr; · iexact HS
    iexact Hb
  imod (close_cell m ρ K (c, .inr (0, 15)) 0 fun r _ => duties_send_last m ρ c r) $$ [Hl] with Hl
  · isplitr; · iexact HS
    iexact Hl
  imod (close_cell m ρ K (c, iRecv c) 0 fun r _ => duties_recv_own m ρ c r) $$ [Ho] with Ho
  · isplitr; · iexact HS
    iexact Ho
  imod (show iprop(shared m ρ K ∗ bigSep Finset.univ fun k : Fin 15 => atPos EM (sendCell c k) 1 ∅ 0) ⊢ |={Set.univ}=> bigSep Finset.univ fun k : Fin 15 => semVal (kcell (c, iSend k)) 0
      from (with_shared fun k _ => close_cell m ρ K (c, iSend k) 1 fun r hr => duties_later m ρ _ r hr).trans (bigSep_fupd _ _)) $$ [Hs] with Hs
  · isplitr; · iexact HS
    iexact Hs
  imod (show iprop(shared m ρ K ∗ bigSep Finset.univ fun k : Fin 15 => atPos EM (recvCell c (src c k)) 1 ∅ 0) ⊢ |={Set.univ}=> bigSep Finset.univ fun k : Fin 15 => semVal (kcell (c, iRecv (src c k))) 0
      from (with_shared fun k _ => close_cell m ρ K (c, iRecv (src c k)) 1 fun r hr => duties_later m ρ _ r hr).trans (bigSep_fupd _ _)) $$ [Hr] with Hr
  · isplitr; · iexact HS
    iexact Hr
  imodintro
  isplitl [Hb]; · iexact Hb
  isplitl [Hl Hs]; · isplitl [Hl] <;> iassumption
  isplitl [Ho] <;> iassumption

/-! ## What a device starts from -/

/-- The rights a device pays with: at every barrier, at its send cells, at every receive cell of its number. -/
def payToks : sProp 𝕄 :=
  iprop((bigSep Finset.univ fun j : Dev nD => dutyTok EM (barCell j) 0 c)
    ∗ (bigSep Finset.univ fun k : Fin 16 => dutyTok EM (kcell (c, .inr (0, k))) 0 0) ∗ bigSep Finset.univ fun t : Dev nD => dutyTok EM (recvCell t c) 0 0)

/-- All cells' invariants and that all have reached round 0. -/
def records : sProp 𝕄 :=
  iprop((bigSep Finset.univ fun ck : Dev nD × CI => cellInv EM (talk m ρ) (K ck) (kcell ck)) ∗ bigSep Finset.univ fun ck : Dev nD × CI => reached EM (kcell ck) 0)

instance records_persistent : BI.Persistent (records (F := F) m ρ K) := by unfold records; infer_instance

/-- A device's share of the protocol's records. -/
def ghost : sProp 𝕄 := iprop(∃ K, records m ρ K ∗ (bigSep Finset.univ fun ci : CI => atPos EM (kcell (c, ci)) 0 ∅ 0) ∗ payToks c)

/-- All that a device holds of the protocol when it starts. -/
def start : sProp 𝕄 :=
  iprop(ghost m ρ c ∗ levAts L lv ∗ cred (tallyAt (barCell c) () 15) ∗ bigSep Finset.univ fun k : Fin 15 => cred (tallyAt (recvCell c (src c k)) () N))

/-- A scratch buffer at any contents. -/
abbrev any (b : Ref sig .tc) : sProp 𝕄 := iprop(∃ f : Buf (Elt F) ((c : Thread nD τ).loc b), ((c : Thread nD τ).loc b) ↦{fullShare} f)

/-- What a device holds besides its staged arrays before the body. -/
def Φ₀ : sProp 𝕄 := iprop(start m ρ c ∗ any c cc0_scratch0 ∗ any c cc0_scratch1 ∗ any c cc0_scratch2)
/-- What it holds besides them afterwards. -/
def Φ₁ : sProp 𝕄 :=
  iprop((any c cc0_scratch0 ∗ any c cc0_scratch1 ∗ any c cc0_scratch2) ∗ bigSep Finset.univ fun ci : CI => (semVal (kcell (c, ci)) 0 : sProp 𝕄))

/-! ## From one phase to the next -/

theorem gAt_any (b : Dev nD) (f : Buf (Elt F) ((gB b).view.loc (c : Thread nD τ))) : gAt c b f ⊢ gAny c b := by
  unfold gAny; iintro H; iexists f; iexact H

/-- What the signals need, from the start. -/
theorem to_greet (f : Buf (Elt F) ((c : Thread nD τ).loc cc0_scratch2)) :
    iprop((bigSep Finset.univ fun j : Dev nD => dutyTok EM (barCell j) 0 c) ∗ (((c : Thread nD τ).loc cc0_scratch2) ↦{fullShare} f))
      ⊢ iprop(gAny c c ∗ bigSep (rangeSet 16 0 16) (greetPart (F := F) c)) := by
  have e0 : greetPart (F := F) c c = iprop(emp) := if_pos rfl
  have e (k : Fin 15) : greetPart (F := F) c (dst c k) = iprop(dutyTok EM (barCell (dst c k)) 0 c ∗ gAny c (dst c k)) := if_neg (dst_ne c k)
  rw [g_blocks, rangeSet_univ, at_dst c (greetPart (F := F) c), at_dst c (fun j => (dutyTok EM (barCell j) 0 c : sProp 𝕄)), at_dst c (fun b => gAt c b f), e0]
  simp only [e]
  rw [bigSep_sep']
  iintro ⟨⟨-, Ht⟩, Hg, Hgs⟩
  isplitl [Hg]; · unfold gAny; iexists f; iexact Hg
  isplitr; · iempintro
  isplitl [Ht]; · iexact Ht
  iapply (show (bigSep Finset.univ fun k : Fin 15 => gAt c (dst c k) f) ⊢ bigSep Finset.univ fun k : Fin 15 => gAny c (dst c k) from
    bigSep_mono fun k _ => gAt_any c (dst c k) f)
  iexact Hgs

/-- What the copies need, after the barrier. -/
theorem to_send :
    iprop((shared m ρ K ∗ owe c (owesRecv c 0) ∗ (bigSep Finset.univ fun k : Fin 15 => gAny (dst c k) c)) ∗ lAll m ρ c
        ∗ (bigSep Finset.univ fun k : Fin 16 => dutyTok EM (kcell (c, .inr (0, k))) 0 0) ∗ bigSep Finset.univ fun t : Dev nD => dutyTok EM (recvCell t c) 0 0)
      ⊢ iprop(Send m ρ K c 0 ∗ lAt m ρ c c) := by
  unfold Send sendPart lAll
  rw [l_blocks, rangeSet_univ, bigSep_rangeSet_empty le_rfl, at_dst c (fun b => lAt m ρ c b), at_dst c (fun t => (dutyTok EM (recvCell t c) 0 0 : sProp 𝕄)),
    at_last (fun k => (dutyTok EM (kcell (c, .inr (0, k))) 0 0 : sProp 𝕄)), bigSep_sep', bigSep_sep', bigSep_sep']
  iintro ⟨⟨HS, HO, Hg⟩, ⟨Hl, Hls⟩, ⟨-, Hs⟩, -, Hr⟩
  isplitr [Hl]
  · isplitl [HS]; · iexact HS
    isplitl [HO]; · iexact HO
    isplitl [Hg Hls Hs Hr]
    · isplitl [Hg]; · iexact Hg
      isplitl [Hls]; · iexact Hls
      isplitl [Hs]; · iexact Hs
      iexact Hr
    iempintro
  · iexact Hl

/-- What the waits for landings need, after the copies are started. -/
theorem to_recv :
    iprop(Send m ρ K c 15 ∗ (bigSep Finset.univ fun k : Fin 15 => cred (tallyAt (recvCell c (src c k)) () N)) ∗ bigSep Finset.univ fun k : Fin 15 => atPos EM (recvCell c (src c k)) 0 ∅ 0)
      ⊢ iprop(Recv m ρ K c 0 ∗ bigSep Finset.univ fun k : Fin 15 => cred (tallyAt (sendCell c k) () N)) := by
  unfold Send Recv recvPart
  rw [owesRecv_none, rangeSet_univ, bigSep_rangeSet_empty le_rfl, bigSep_rangeSet_empty le_rfl, bigSep_sep']
  iintro ⟨⟨HS, HO, -, Hc⟩, Hcr, Ha⟩
  isplitr [Hc]
  · isplitl [HS]; · iexact HS
    isplitl [HO]; · iexact HO
    isplitl [Hcr Ha]; · isplitl [Hcr] <;> iassumption
    iempintro
  · iexact Hc

/-- What the last waits need. -/
theorem to_back :
    iprop(Recv m ρ K c 15 ∗ (bigSep Finset.univ fun k : Fin 15 => cred (tallyAt (sendCell c k) () N)) ∗ bigSep Finset.univ fun k : Fin 15 => atPos EM (sendCell c k) 0 ∅ 0)
      ⊢ iprop(Back m ρ K c 0 ∗ bigSep Finset.univ (recvDone m ρ c)) := by
  unfold Recv Back backPart
  rw [rangeSet_univ, bigSep_rangeSet_empty le_rfl, bigSep_rangeSet_empty le_rfl, bigSep_sep']
  iintro ⟨⟨HS, HO, -, Hd⟩, Hcr, Ha⟩
  isplitr [Hd]
  · isplitl [HS]; · iexact HS
    isplitl [HO]; · iexact HO
    isplitl [Hcr Ha]; · isplitl [Hcr] <;> iassumption
    iempintro
  · iexact Hd

/-- The end: buffers whole again, cells closed. -/
theorem to_end :
    iprop(Back m ρ K c 15 ∗ bigSep Finset.univ (recvDone m ρ c) ∗ lAt m ρ c c ∗ vAt m ρ c ∗ gAny c c ∗ atPos EM (barCell c) 1 ∅ 0
        ∗ atPos EM (kcell (c, .inr (0, 15))) 0 ∅ 0 ∗ atPos EM (recvCell c c) 0 ∅ 0)
      ⊢ |={Set.univ}=> iprop(owe c 0 ∗ Φ₁ c) := by
  unfold Back backDone recvDone Φ₁
  rw [rangeSet_univ, bigSep_rangeSet_empty le_rfl, bigSep_sep', bigSep_sep']
  iintro ⟨⟨#HS, HO, -, Has, Hls⟩, ⟨Har, Hgs⟩, Hl, Hv, Hg, Hb, Ha1, Ha2⟩
  imod (close_all m ρ K c) $$ [Has Har Hb Ha1 Ha2] with Hz
  · isplitr; · iexact HS
    isplitl [Hb]; · iexact Hb
    isplitl [Ha1 Has]; · isplitl [Ha1] <;> iassumption
    isplitl [Ha2] <;> iassumption
  imodintro
  isplitl [HO]; · iexact HO
  isplitr [Hz]
  · isplitl [Hl Hls]
    · iexists (lV m ρ c)
      rw [l_blocks, at_dst c (fun b => lAt m ρ c b)]
      isplitl [Hl] <;> iassumption
    isplitl [Hv]; · iexists (vV m ρ c); unfold vAt; iexact Hv
    iapply (g_join (F := F) c (lV m ρ c))
    rw [at_src c (fun b => gAny (F := F) c b)]
    isplitl [Hg]; · iexact Hg
    iapply (show (bigSep Finset.univ fun k : Fin 15 => gLand m ρ c (src c k)) ⊢ bigSep Finset.univ fun k : Fin 15 => gAny c (src c k) from
      bigSep_mono fun k _ => gAt_any c (src c k) _)
    iexact Hgs
  · iexact Hz

end Cert.KernelIdeal.Mesh
-- ==== Proof.KernelIdeal.Body.lean ====
/-
The whole body of a device.
-/
module

public import proofs.«01_k».proof.Proof.KernelIdeal.Phases

@[expose] public section

set_option maxRecDepth 65536

noncomputable section

namespace Cert.KernelIdeal.Mesh

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CI → ℕ) (c : Dev nD)

/-- A program followed by another. -/
theorem step_bind {α β : Type} {P : sProp 𝕄} {p : Pg F β} {k : β → Pg F α} {Q : α → sProp 𝕄} (h : P ⊢ runs c p (fun x => runs c (k x) Q)) :
    P ⊢ runs c (p >>= k) Q := by
  rw [runs_bind]; exact h
/-- A finished program, whose last facts may still be updated. -/
theorem runs_end {α : Type} {c : Dev nD} {a : α} {P : sProp 𝕄} {Q : α → sProp 𝕄} (h : P ⊢ |={Set.univ}=> Q a) : P ⊢ runs c (pure a) Q := by
  show P ⊢ wp frame _ Set.univ (.ret a) Q
  rw [wp_ret]; exact h

/-! ## What rides along, phase by phase -/

/-- What no peer touches: the own block and the two unused semaphores. -/
abbrev atOwn : sProp 𝕄 := iprop(gAny (F := F) c c ∗ atPos EM (kcell (c, .inr (0, 15))) 0 ∅ 0 ∗ atPos EM (recvCell c c) 0 ∅ 0)
abbrev atPeers (fo : Buf (Elt F) ((c : Thread nD τ).loc cc0_stg2_0)) : sProp 𝕄 :=
  iprop(((bigSep Finset.univ fun k : Fin 15 => cred (tallyAt (recvCell c (src c k)) () N)) ∗ bigSep Finset.univ fun k : Fin 15 => atPos EM (recvCell c (src c k)) 0 ∅ 0)
    ∗ (((c : Thread nD τ).loc cc0_stg2_0) ↦{fullShare} fo) ∗ (bigSep Finset.univ fun k : Fin 15 => atPos EM (sendCell c k) 0 ∅ 0) ∗ atOwn c)
abbrev atEntry (f1 : Buf (Elt F) ((c : Thread nD τ).loc cc0_scratch1)) (fo : Buf (Elt F) ((c : Thread nD τ).loc cc0_stg2_0)) : sProp 𝕄 :=
  iprop(((bigSep Finset.univ fun k : Fin 16 => dutyTok EM (kcell (c, .inr (0, k))) 0 0) ∗ bigSep Finset.univ fun t : Dev nD => dutyTok EM (recvCell t c) 0 0)
    ∗ (((c : Thread nD τ).loc cc0_scratch1) ↦{fullShare} f1) ∗ wAt m ρ c ∗ atPeers c fo)
abbrev atBack : sProp 𝕄 := iprop(lAt m ρ c c ∗ wAt m ρ c ∗ xAt m ρ c ∗ atPos EM (barCell c) 1 ∅ 0 ∗ atOwn c)

theorem r1 (T : sProp 𝕄) :
    iprop(Greet m ρ K c 7 ∗ lAll m ρ c ∗ xAt m ρ c ∗ cred (tallyAt (barCell c) () 15) ∗ atPos EM (barCell c) 0 ∅ 0 ∗ T)
      ⊢ iprop(Greet m ρ K c 7 ∗ cred (tallyAt (barCell c) () 15) ∗ atPos EM (barCell c) 0 ∅ 0 ∗ lAll m ρ c ∗ xAt m ρ c ∗ T) := by
  iintro ⟨H1, H2, H3, H4, H5, H6⟩
  isplitl [H1]; · iexact H1
  isplitl [H4]; · iexact H4
  isplitl [H5]; · iexact H5
  isplitl [H2]; · iexact H2
  isplitl [H3] <;> iassumption

theorem r2 (f1 : Buf (Elt F) ((c : Thread nD τ).loc cc0_scratch1)) (fo : Buf (Elt F) ((c : Thread nD τ).loc cc0_stg2_0)) :
    iprop((shared m ρ K ∗ owe c (owesRecv c 0) ∗ (bigSep Finset.univ fun k : Fin 15 => gAny (dst c k) c)) ∗ atPos EM (barCell c) 1 ∅ 0 ∗ lAll m ρ c ∗ xAt m ρ c ∗ atEntry m ρ c f1 fo)
      ⊢ iprop(Send m ρ K c 0 ∗ (((c : Thread nD τ).loc cc0_scratch1) ↦{fullShare} f1) ∗ lAt m ρ c c ∗ wAt m ρ c ∗ atPos EM (barCell c) 1 ∅ 0 ∗ xAt m ρ c ∗ atPeers c fo) := by
  iintro ⟨H1, Hb, Hl, Hx, ⟨Ht1, Ht2⟩, Hv, Hw, Hp⟩
  ihave H := (to_send m ρ K c) $$ [H1 Hl Ht1 Ht2]
  · isplitl [H1]; · iexact H1
    isplitl [Hl]; · iexact Hl
    isplitl [Ht1] <;> iassumption
  icases H with ⟨HS, Hl⟩
  isplitl [HS]; · iexact HS
  isplitl [Hv]; · iexact Hv
  isplitl [Hl]; · iexact Hl
  isplitl [Hw]; · iexact Hw
  isplitl [Hb]; · iexact Hb
  isplitl [Hx] <;> iassumption

theorem r3 (fo : Buf (Elt F) ((c : Thread nD τ).loc cc0_stg2_0)) :
    iprop(Send m ρ K c 15 ∗ vAt m ρ c ∗ lAt m ρ c c ∗ wAt m ρ c ∗ atPos EM (barCell c) 1 ∅ 0 ∗ xAt m ρ c ∗ atPeers c fo)
      ⊢ iprop(Recv m ρ K c 0 ∗ vAt m ρ c ∗ (((c : Thread nD τ).loc cc0_stg2_0) ↦{fullShare} fo)
          ∗ ((bigSep Finset.univ fun k : Fin 15 => cred (tallyAt (sendCell c k) () N)) ∗ bigSep Finset.univ fun k : Fin 15 => atPos EM (sendCell c k) 0 ∅ 0) ∗ atBack m ρ c) := by
  iintro ⟨H1, Hv, Hl, Hw, Hb, Hx, ⟨Hc, Ha⟩, Ho, Hs, HE⟩
  ihave H := (to_recv m ρ K c) $$ [H1 Hc Ha]
  · isplitl [H1]; · iexact H1
    isplitl [Hc] <;> iassumption
  icases H with ⟨HR, Hc⟩
  isplitl [HR]; · iexact HR
  isplitl [Hv]; · iexact Hv
  isplitl [Ho]; · iexact Ho
  isplitl [Hc Hs]; · isplitl [Hc] <;> iassumption
  isplitl [Hl]; · iexact Hl
  isplitl [Hw]; · iexact Hw
  isplitl [Hx]; · iexact Hx
  isplitl [Hb] <;> iassumption

theorem r4 :
    iprop((((c : Thread nD τ).loc cc0_stg2_0) ↦{fullShare} outV m ρ c) ∗ Recv m ρ K c 15 ∗ vAt m ρ c
          ∗ ((bigSep Finset.univ fun k : Fin 15 => cred (tallyAt (sendCell c k) () N)) ∗ bigSep Finset.univ fun k : Fin 15 => atPos EM (sendCell c k) 0 ∅ 0) ∗ atBack m ρ c)
      ⊢ iprop(Back m ρ K c 0 ∗ bigSep Finset.univ (recvDone m ρ c) ∗ (((c : Thread nD τ).loc cc0_stg2_0) ↦{fullShare} outV m ρ c) ∗ vAt m ρ c ∗ atBack m ρ c) := by
  iintro ⟨Ho, H1, Hv, ⟨Hc, Ha⟩, HE⟩
  ihave H := (to_back m ρ K c) $$ [H1 Hc Ha]
  · isplitl [H1]; · iexact H1
    isplitl [Hc] <;> iassumption
  icases H with ⟨HB, Hd⟩
  isplitl [HB]; · iexact HB
  isplitl [Hd]; · iexact Hd
  isplitl [Ho]; · iexact Ho
  isplitl [Hv] <;> iassumption

/-- What a device leaves. -/
abbrev leaves : sProp 𝕄 := iprop(owe c 0 ∗ Φ₁ (F := F) c ∗ xAt m ρ c ∗ wAt m ρ c ∗ (((c : Thread nD τ).loc cc0_stg2_0) ↦{fullShare} outV m ρ c))

theorem r5 :
    iprop(Back m ρ K c 15 ∗ bigSep Finset.univ (recvDone m ρ c) ∗ (((c : Thread nD τ).loc cc0_stg2_0) ↦{fullShare} outV m ρ c) ∗ vAt m ρ c ∗ atBack m ρ c)
      ⊢ |={Set.univ}=> leaves m ρ c := by
  iintro ⟨HB, Hd, Ho, Hv, Hl, Hw, Hx, Hb, Hg, Ha1, Ha2⟩
  imod (to_end m ρ K c) $$ [HB Hd Hl Hv Hg Hb Ha1 Ha2] with ⟨HO, HΦ⟩
  · isplitl [HB]; · iexact HB
    isplitl [Hd]; · iexact Hd
    isplitl [Hl]; · iexact Hl
    isplitl [Hv]; · iexact Hv
    isplitl [Hg]; · iexact Hg
    isplitl [Hb]; · iexact Hb
    isplitl [Ha1] <;> iassumption
  imodintro
  isplitl [HO]; · iexact HO
  isplitl [HΦ]; · iexact HΦ
  isplitl [Hx]; · iexact Hx
  isplitl [Hw] <;> iassumption

/-! ## The body -/

/-- The stretches of the body, one after another. -/
theorem runs_phases {Q : PUnit → sProp 𝕄} (f0 : Buf (Elt F) ((c : Thread nD τ).loc cc0_scratch0)) (f1 : Buf (Elt F) ((c : Thread nD τ).loc cc0_scratch1))
    (fo : Buf (Elt F) ((c : Thread nD τ).loc cc0_stg2_0)) (h : leaves m ρ c ⊢ Q ⟨⟩) :
    iprop((((c : Thread nD τ).loc cc0_scratch0) ↦{fullShare} f0) ∗ Greet m ρ K c 0 ∗ xAt m ρ c ∗ cred (tallyAt (barCell c) () 15) ∗ atPos EM (barCell c) 0 ∅ 0 ∗ atEntry m ρ c f1 fo)
      ⊢ runs c (cc0_body xM (Memref.isWhole_whole _) wM (Memref.isWhole_whole _) oM (Memref.isWhole_whole _) lM (Memref.isWhole_whole _) vM (Memref.isWhole_whole _) gM (Memref.isWhole_whole _) cc0_scratch3 cc0_scratch4) Q := by
  rw [cc0_body_eq_skeleton]; unfold cc0_body_skel
  refine step_bind c (part1 m ρ K c f0 fun v2 w1 => ?_)
  refine (r1 m ρ K c _).trans ?_
  refine step_bind c (part2 m ρ K c v2 w1 fun v58 => ?_)
  refine (r2 m ρ K c f1 fo).trans ?_
  refine step_bind c (part3 m ρ K c v2 v58 ?_)
  refine step_bind c (part4 m ρ K c v2 ?_)
  refine step_bind c (part5 m ρ K c v2 fun v154 => ?_)
  refine step_bind c (part6 m ρ K c v2 v154 fun v189 => ?_)
  refine step_bind c (part7 m ρ K c v2 v189 ?_)
  refine step_bind c (part8 m ρ K c v2 f1 fun a8 b8 => ?_)
  refine (r3 m ρ K c fo).trans ?_
  refine step_bind c (part9 m ρ K c _ _ _ (fun u90 => ?_))
  refine step_bind c (part10 m ρ K c _ _ (fun u100 => ?_))
  refine step_bind c (part11 m ρ K c _ _ (fun u110 => ?_))
  refine step_bind c (part12 m ρ K c _ _ (fun u120 u121 => ?_))
  refine step_bind c (part13 m ρ K c _ _ _ ?_)
  refine step_bind c (part14 m ρ K c _ (fun u140 => ?_))
  refine step_bind c (part15 m ρ K c _ _ (fun u150 u151 => ?_))
  refine step_bind c (part16 m ρ K c _ _ _ (fun u160 => ?_))
  refine step_bind c (part17 m ρ K c _ _ fo ?_)
  refine (r4 m ρ K c).trans ?_
  refine step_bind c (part18 m ρ K c _ ?_)
  refine step_bind c (part19 m ρ K c _ fun _ => ?_)
  refine step_bind c (part20 m ρ K c _ _ ?_)
  refine step_bind c (part21 m ρ K c _ ?_)
  refine step_back m ρ K c 14 (send_sem _ 14 rfl _) ?_
  exact runs_end ((r5 m ρ K c).trans (BI.fupd_mono h))

/-- The whole body at a symbolic device. -/
theorem runs_body {Q : PUnit → sProp 𝕄} (fo : Buf (Elt F) ((c : Thread nD τ).loc cc0_stg2_0)) (h : leaves m ρ c ⊢ Q ⟨⟩) :
    iprop(Φ₀ m ρ c ∗ owe c (O₀ c) ∗ xAt m ρ c ∗ wAt m ρ c ∗ (((c : Thread nD τ).loc cc0_stg2_0) ↦{fullShare} fo))
      ⊢ runs c (cc0_body xM (Memref.isWhole_whole _) wM (Memref.isWhole_whole _) oM (Memref.isWhole_whole _) lM (Memref.isWhole_whole _) vM (Memref.isWhole_whole _) gM (Memref.isWhole_whole _) cc0_scratch3 cc0_scratch4) Q := by
  unfold Φ₀ start ghost payToks any
  simp only [cells_eq c (fun ci : CI => (atPos EM (kcell (c, ci)) 0 ∅ 0 : sProp 𝕄))]
  iintro ⟨⟨⟨⟨%K, #HR, ⟨Hb, ⟨Ha1, Has⟩, Ha2, Har⟩, Ht0, Ht1, Ht2⟩, #Hlev, Hcb, Hcr⟩, ⟨%f0, Hl⟩, ⟨%f1, Hv⟩, ⟨%f2, Hg⟩⟩, HO, Hx, Hw, Ho⟩
  ihave H := (to_greet (F := F) c f2) $$ [Ht0 Hg]
  · isplitl [Ht0] <;> iassumption
  icases H with ⟨Hg, Hgr⟩
  iapply (runs_phases m ρ K c f0 f1 fo h)
  isplitl [Hl]; · iexact Hl
  isplitl [HO Hgr]
  · unfold Greet
    isplitr
    · unfold shared records
      icases HR with ⟨#H1, #H2⟩
      isplitr; · iexact H1
      isplitr; · iexact H2
      iexact Hlev
    isplitl [HO]; · unfold O₀; iexact HO
    iexact Hgr
  isplitl [Hx]; · iexact Hx
  isplitl [Hcb]; · iexact Hcb
  isplitl [Hb]; · iexact Hb
  isplitl [Ht1 Ht2]
  · isplitl [Ht1]
    · iexact Ht1
    · iexact Ht2
  isplitl [Hv]; · iexact Hv
  isplitl [Hw]; · iexact Hw
  isplitl [Hcr Har]
  · isplitl [Hcr]
    · iexact Hcr
    · iexact Har
  isplitl [Ho]; · iexact Ho
  isplitl [Has]; · iexact Has
  isplitl [Hg]; · iexact Hg
  isplitl [Ha1]
  · iexact Ha1
  · iexact Ha2

end Cert.KernelIdeal.Mesh
-- ==== Proof.KernelIdeal.Launch.lean ====
/-
The kernel's launch: what each device's cells and buffers hold before and after the body, the rights dealt out, and the run of the whole program.
-/
module

public import proofs.«01_k».proof.Proof.KernelIdeal.Body
public import Idealize.ShloMosaic.Lib.Pipeline.Launch
public import Idealize.ShloMosaic.Lib.Pipeline.CollectiveSegs

@[expose] public section

set_option maxRecDepth 65536

noncomputable section

namespace Cert.KernelIdeal.Mesh

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Ring

variable {F : FTy → Type} [FloatOps F]

local notation "𝕄" => MT nD τ sig Unit (Elt F) ℕ UU ℕ

variable (m : (ℓ : Loc nD τ sig) → Buf (Elt F) ℓ) (ρ : Dev nD → PrngReg)

/-! ## The body's obligation -/

/-- The two inputs stay, the result is `outV`. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => outV m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem owns_stage (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A window's staging buffer, at known contents. -/
abbrev stage (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body starts from. -/
def bodyPre (c : Dev nD) : sProp 𝕄 :=
  iprop(Φ₀ m ρ c ∗ (dats m ρ 0 c).owesAt () t0_0.castSucc
    ∗ (∃ d, stage c cc0_stg0_0 ((dats m ρ 0 c).before (0 : Fin 3) t0_0 d))
    ∗ (∃ d, stage c cc0_stg1_0 ((dats m ρ 0 c).before (1 : Fin 3) t0_0 d))
    ∗ (∃ d, stage c cc0_stg2_0 ((dats m ρ 0 c).before (2 : Fin 3) t0_0 d)))

/-- What the body must leave. -/
def bodyPost (c : Dev nD) : sProp 𝕄 :=
  iprop(Φ₁ c ∗ (dats m ρ 0 c).owesAt () t0_0.succ
    ∗ stage c cc0_stg0_0 (xstg m ρ c) ∗ stage c cc0_stg1_0 (wstg m ρ c) ∗ stage c cc0_stg2_0 (outV m ρ c))

/-- What the body leaves is what it must leave. -/
theorem to_post (c : Dev nD) : leaves m ρ c ⊢ bodyPost m ρ c := by
  unfold leaves owe xAt wAt bodyPost Dat.owesAt Pipeline.owesWithin
  iintro ⟨⟨%W, HO⟩, HΦ, Hx, Hw, Ho⟩
  isplitl [HΦ]; · iexact HΦ
  isplitl [HO]
  · iexists W
    isplitr
    · ipureintro; exact fun _ _ => Or.inl trivial
    · iexact HO
  isplitl [Hx]
  · iexists xstg m ρ c
    isplitr; · ipureintro; rfl
    iexact Hx
  isplitl [Hw]
  · iexists wstg m ρ c
    isplitr; · ipureintro; rfl
    iexact Hw
  · iexists outV m ρ c
    isplitr; · ipureintro; rfl
    iexact Ho

/-- The body, from its start to what it must leave. -/
theorem body_runs (c : Dev nD) :
    bodyPre m ρ c ⊢ runs c (cc0_body xM (Memref.isWhole_whole _) wM (Memref.isWhole_whole _) oM (Memref.isWhole_whole _) lM (Memref.isWhole_whole _) vM (Memref.isWhole_whole _) gM (Memref.isWhole_whole _) cc0_scratch3 cc0_scratch4) (fun _ => bodyPost m ρ c) := by
  unfold bodyPre
  iintro ⟨HΦ, Ho, ⟨%d0, %g0, %hg0, Hx⟩, ⟨%d1, %g1, %hg1, Hw⟩, ⟨%d2, %g2, %hg2, Hout⟩⟩
  have hx : g0 = xstg m ρ c := by rw [hg0]; unfold Dat.before; rw [if_pos (fetch0_0 t0_0)]; rfl
  have hw : g1 = wstg m ρ c := by rw [hg1]; unfold Dat.before; rw [if_pos (fetch0_1 t0_0)]; rfl
  subst hx hw
  unfold Dat.owesAt Pipeline.owesWithin
  icases Ho with ⟨%W, %hW, HO⟩
  rw [show (dats m ρ 0 c).owed t0_0.castSucc = O₀ c from rfl]
  iapply (runs_body m ρ c (Q := fun _ => bodyPost m ρ c) g2 (to_post m ρ c))
  isplitl [HΦ]; · iexact HΦ
  isplitl [HO]; · unfold owe; iexists W; iexact HO
  unfold xAt wAt
  isplitl [Hx]; · iexact Hx
  isplitl [Hw]; · iexact Hw
  iexact Hout

/-- The same, as the launch asks for it. -/
theorem body_obligation (c : Dev nD) : BodyObligation (dats (F := F) m ρ 0 c) (defs₀ (F := F)) 𝒱₀ () Set.univ := fun t => by
  rw [fin_N0 t]
  rw [bigSep_W0, bigSep_W0]
  simp only [owns_stage]
  exact body_runs m ρ c

/-! ## The launch -/

theorem ownSemFacts : Pipeline.OwnSemFacts cfg0.spec osem := by decide

theorem share_eq (c : Dev nD) (w : Fin cfg0.W) : (dats m ρ 0 c).share w = fullShare := by unfold Dat.share; split <;> rfl

theorem csem_injective : Function.Injective csem := by
  rintro (u | ⟨b, k⟩) (u' | ⟨b', k'⟩) h
  · rfl
  · cases h
  · cases h
  · obtain ⟨rfl, rfl⟩ := dsem_inj (SemLoc.dma.inj h); rfl
theorem kcell_injective : Function.Injective kcell := by
  rintro ⟨c, i⟩ ⟨c', i'⟩ h
  have h1 : c = c' := congrArg (fun g : GSem nD τ sig => g.1.1) h
  have h2 : i = i' := csem_injective (congrArg (fun g : GSem nD τ sig => g.2) h)
  rw [h1, h2]
/-- All cells of the protocol. -/
def kcells : Finset (GSem nD τ sig) := Finset.univ.map ⟨kcell, kcell_injective⟩

/-- The rights minted at a device's cells: at its barrier one for every device, at every other cell one. -/
abbrev rightOf (cj : Dev nD × (Dev nD ⊕ (Fin 2 × Fin 16))) : GSem nD τ sig × ℕ × Dev nD := match cj.2 with
  | .inl d => (barCell cj.1, 0, d)
  | .inr bk => (kcell (cj.1, .inr bk), 0, 0)
theorem rightOf_injective : Function.Injective rightOf := by
  rintro ⟨c, d | bk⟩ ⟨c', d' | bk'⟩ h
  · have h1 : c = c' := congrArg (fun x : GSem nD τ sig × ℕ × Dev nD => x.1.1.1) h
    have h2 : d = d' := congrArg (fun x : GSem nD τ sig × ℕ × Dev nD => x.2.2) h
    rw [h1, h2]
  · have h1 : SemLoc.reg barS = _ := congrArg (fun x : GSem nD τ sig × ℕ × Dev nD => x.1.2) h
    cases h1
  · have h1 : _ = SemLoc.reg barS := congrArg (fun x : GSem nD τ sig × ℕ × Dev nD => x.1.2) h
    cases h1
  · have h1 := kcell_injective (congrArg (fun x : GSem nD τ sig × ℕ × Dev nD => x.1) h)
    have h2 : c = c' := congrArg (fun x : Dev nD × CI => x.1) h1
    have h3 : bk = bk' := Sum.inr.inj (congrArg (fun x : Dev nD × CI => x.2) h1)
    rw [h2, h3]
/-- All rights to pay a duty. -/
def rights : Finset (GSem nD τ sig × ℕ × Dev nD) := Finset.univ.map ⟨rightOf, rightOf_injective⟩

/-- The ghost state at launch. -/
def u₀ : UU := (initOf (Pipeline.cells cfgs cellOf_inj) (Pipeline.launchToks cfgs cellOf_inj), initOf kcells rights)

/-- The rights at a device's own cells. -/
def ownRights (c : Dev nD) : sProp 𝕄 :=
  iprop((bigSep Finset.univ fun d : Dev nD => dutyTok EM (barCell c) 0 d) ∗ bigSep Finset.univ fun bk : Fin 2 × Fin 16 => dutyTok EM (kcell (c, .inr bk)) 0 0)

/-- What the launch deals a device at first. -/
def G (c : Dev nD) : sProp 𝕄 :=
  iprop((bigSep Finset.univ fun i : CI => roundState EM (talk m ρ) (kcell (c, i)) 0)
    ∗ (bigSep Finset.univ fun i : CI => iprop(atPos EM (kcell (c, i)) 0 ∅ 0 ∗ reached EM (kcell (c, i)) 0)) ∗ ownRights c)

/-- The ghost state at launch pays for every device's records. -/
theorem fund_cells : BI.own (EM (initOf kcells rights)) ⊢ (|==> bigSep Finset.univ (G m ρ) : sProp 𝕄) := by
  have hX (Φ : GSem nD τ sig → sProp 𝕄) : bigSep kcells Φ = bigSep Finset.univ fun c : Dev nD => bigSep Finset.univ fun i : CI => Φ (kcell (c, i)) := by
    unfold kcells; rw [bigSep_map, bigSep_univ_prod]; rfl
  have hT : bigSep rights (fun x => (dutyTok EM x.1 x.2.1 x.2.2 : sProp 𝕄)) = bigSep Finset.univ fun c : Dev nD => ownRights c := by
    unfold rights; rw [bigSep_map, bigSep_univ_prod]
    exact bigSep_congr fun c _ => by unfold ownRights; rw [bigSep_univ_sum]; rfl
  iintro HX
  imod (Rounds.fund EM (talk m ρ) kcells rights) $$ HX with ⟨Hst, Hr, Hat, Htok⟩
  imodintro
  ihave Hst' := (Entails.of_eq (hX fun g => roundState EM (talk m ρ) g 0)) $$ Hst
  ihave Hat' := (Entails.of_eq (hX fun g => atPos EM g 0 ∅ 0)) $$ Hat
  ihave Hr' := (Entails.of_eq (hX fun g => reached EM g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem unscopedSems0_eq (c : Dev nD) : (unscopedSems0 c : sProp 𝕄) = semVal (barCell c) 0 := by
  unfold unscopedSems0; rw [bigSep_eq_bigSepL_of_eq [SemLoc.reg barS] (by decide) (by decide)]; rfl

/-- A device's counters at zero are the launch's unscoped one and the kernel's own. -/
theorem sems_eq (c : Dev nD) :
    (bigSep Finset.univ fun i : CI => semVal (kcell (c, i)) 0 : sProp 𝕄)
      = iprop(unscopedSems0 c ∗ Pipeline.ownSems0 (Ix := Unit) (Name := ℕ) (U := UU) (Lvl := ℕ) (Val := Elt F) (τ := τ) osem c) := by
  rw [cells_split, unscopedSems0_eq]; rfl

/-- A device's cells are opened, each with its invariant. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun i : CI => iprop(∃ κ : ℕ, cellInv EM (talk m ρ) κ (kcell (c, i))))
          ∗ (bigSep Finset.univ fun i : CI => iprop(atPos EM (kcell (c, i)) 0 ∅ 0 ∗ reached EM (kcell (c, i)) 0)) ∗ ownRights c) := by
  unfold G
  iintro ⟨Hos, Hus, Hst, Hat, Htok⟩
  ihave Hv := (Entails.of_eq (sems_eq (F := F) c).symm) $$ [Hos Hus]
  · isplitl [Hus] <;> iassumption
  imod (show iprop((bigSep Finset.univ fun i : CI => semVal (kcell (c, i)) 0) ∗ bigSep Finset.univ fun i : CI => roundState EM (talk m ρ) (kcell (c, i)) 0)
      ⊢ (|={Set.univ}=> bigSep Finset.univ fun i : CI => iprop(∃ κ : ℕ, cellInv EM (talk m ρ) κ (kcell (c, i))) : sProp 𝕄) from by
        rw [← bigSep_sep']
        exact (bigSep_mono fun k _ => (Rounds.body_intro EM (talk m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- Every right goes from the device whose cell it is at to the device that pays with it. -/
theorem rights_around : (bigSep Finset.univ fun c : Dev nD => (ownRights c : sProp 𝕄)) ⊢ bigSep Finset.univ fun c : Dev nD => payToks c := by
  unfold ownRights payToks
  rw [bigSep_sep', bigSep_sep', bigSep_sep', bigSep_univ_comm (fun (c d : Dev nD) => (dutyTok EM (barCell c) 0 d : sProp 𝕄)),
    bigSep_congr (s := Finset.univ) (fun (c : Dev nD) _ => own_split (fun bk => (dutyTok EM (kcell (c, .inr bk)) 0 0 : sProp 𝕄))),
    bigSep_sep']
  refine sep_mono_right (sep_mono_right ?_)
  exact Entails.of_eq (bigSep_univ_comm (fun (c s : Dev nD) => (dutyTok EM (recvCell c s) 0 0 : sProp 𝕄)))

theorem ghost_intro (K : Dev nD × CI → ℕ) (c : Dev nD) :
    iprop(records m ρ K ∗ (bigSep Finset.univ fun i : CI => atPos EM (kcell (c, i)) 0 ∅ 0) ∗ payToks c) ⊢ ghost m ρ c := by
  unfold ghost
  iintro H
  iexists K; iexact H

/-- Every device's records, with each right at the device that pays with it and the invariants known to all. -/
theorem regroup :
    (bigSep Finset.univ fun c : Dev nD => iprop((bigSep Finset.univ fun i : CI => iprop(∃ κ : ℕ, cellInv EM (talk m ρ) κ (kcell (c, i))))
          ∗ (bigSep Finset.univ fun i : CI => iprop(atPos EM (kcell (c, i)) 0 ∅ 0 ∗ reached EM (kcell (c, i)) 0)) ∗ ownRights c) : sProp 𝕄)
      ⊢ bigSep Finset.univ (ghost m ρ) := by
  rw [bigSep_sep', bigSep_sep', ← bigSep_univ_prod (fun ck : Dev nD × CI => iprop(∃ κ : ℕ, cellInv EM (talk m ρ) κ (kcell ck))),
    bigSep_congr (s := Finset.univ) (fun (c : Dev nD) _ => bigSep_sep' Finset.univ (fun i : CI => (atPos EM (kcell (c, i)) 0 ∅ 0 : sProp 𝕄)) (fun i => reached EM (kcell (c, i)) 0)),
    bigSep_sep', ← bigSep_univ_prod (fun ck : Dev nD × CI => (reached EM (kcell ck) 0 : sProp 𝕄))]
  iintro ⟨HI, ⟨Hat, #HR⟩, Htok⟩
  ihave HK := (BI.bigSep_exists_pi Finset.univ (fun (ck : Dev nD × CI) (κ : ℕ) => (cellInv EM (talk m ρ) κ (kcell ck) : sProp 𝕄))) $$ HI
  icases HK with ⟨%K, #HI⟩
  ihave Htk := (rights_around (F := F)) $$ Htok
  iapply (with_shared (R := records m ρ K) fun c _ => ghost_intro m ρ K c)
  isplitr
  · unfold records; isplitl; · iexact HI
    iexact HR
  · rw [bigSep_sep']
    isplitl [Hat]; · iexact Hat
    iexact Htk

/-- The opened cells of all devices, shared. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (ghost m ρ) :=
  ((bigSep_mono fun c _ => core_alloc m ρ c).trans (bigSep_fupd _ _)).trans (BI.fupd_mono (regroup m ρ))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ ghost m ρ c)
      ⊢ |={Set.univ}=> iprop(start m ρ c ∗ emp) := by
  iintro ⟨-, Hlev, Hcr, -, HG⟩
  ihave Hc := (creds (F := F) c) $$ Hcr
  imodintro
  unfold start
  isplitl
  · isplitl [HG]; · iexact HG
    isplitl [Hlev]; · iexact Hlev
    iexact Hc
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁
  rw [sems_eq]
  iintro ⟨Hr, Hu, Ho⟩
  isplitl [Hu]; · iexact Hu
  isplitl [Ho]; · iexact Ho
  iexact Hr

/-- The staging's waits are allowed. -/
theorem waits (c : Dev nD) : (levAts L lv : sProp 𝕄) ⊢ Pipeline.cellsWaits cfgs (dats m ρ) () 0 c :=
  Pipeline.cellsWaits_intro cfgs (dats m ρ) () 0 c fun w s t =>
    mayWait_low c _ (by fin_cases w <;> fin_cases s <;> decide) _ (by
      rcases t with ⟨_ | _, ht⟩
      · exact Or.inl rfl
      · exact Or.inr rfl)

/-! ## The run -/

/-- What an array holds at the end. -/
def finalA (c : Dev nD) (w : Fin cfg0.W) : Buf (Elt F) ((cfg0.win w).arr.view.loc (c : Thread nD τ)) := (dats m ρ 0 c).arrAt w cfg0.N

/-- The arrays of every device at the end. -/
def QC : PUnit × MemSt nD τ sig (Elt F) → Prop := fun r =>
  ∀ c : Dev nD, ∀ w : Fin cfg0.W, r.2.mem ((cfg0.win w).arr.view.loc (c : Thread nD τ)) = finalA m ρ c w

/-- On sixteen devices, from any memory with all counters at zero, every fair run of the program ends, with each device's
    arrays at `finalA` and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := ghost m ρ) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The inputs end as they began. -/
theorem finalA_x (c : Dev nD) : finalA m ρ c (0 : Fin 3) = (s₀ m ρ).mem (win0_0.arr.view.loc (c : Thread nD τ)) :=
  (dats (F := F) m ρ 0 c).arrAt_in (0 : Fin 3) rfl _
theorem finalA_w (c : Dev nD) : finalA m ρ c (1 : Fin 3) = (s₀ m ρ).mem (win0_1.arr.view.loc (c : Thread nD τ)) :=
  (dats (F := F) m ρ 0 c).arrAt_in (1 : Fin 3) rfl _

end Cert.KernelIdeal.Mesh
-- ==== Proof.KernelIdeal.Value.lean ====
/-
The kernel's result on a device, element by element, over exact arithmetic: the gelu of the whole product's row.
-/
module

public import proofs.«01_k».proof.Proof.KernelIdeal.Launch
public import proofs.«01_k».proof.Proof.Gen.ReferenceIdeal.Run
public import Idealize.ShloMosaic.Lib.Layout
public import Idealize.ShloMosaic.Lib.MatmulPlain
public import Idealize.ShloMosaic.Lib.StackMember

@[expose] public section

set_option maxRecDepth 65536

noncomputable section

namespace Cert.KernelIdeal.Mesh

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring

open Idealize.ShloMosaic.ValueIdx
open Idealize.ShloMosaic.Pipeline

abbrev Whole : Shape := ⟨2, ![1024, 1024]⟩

variable (m : (ℓ : Loc nD τ sig) → Buf (Elt Ideal) ℓ) (ρ : Dev nD → PrngReg)
variable (X Y : Shape.Idx Whole → EReal)

set_option backward.proofsInPublic true in
/-- Place `k` of block `b`, of sixteen blocks of 64. -/
def at64 (b : Dev nD) (k : Fin 64) : Fin 1024 := ⟨64 * b.val + k.val, by have hb : b.val < 16 := b.isLt; have := k.isLt; show 64 * b.val + k.val < 1024; omega⟩

/-! ## The blocks that are multiplied -/

/-- A block sent by `s` to `b`, as places of the whole `x`. -/
theorem xrow_at (hX : ∀ c : Dev nD, m ((c.tc : Thread nD τ).loc main_arg0) = Layout.block ⟨2, ![1024, 64]⟩ Whole 1 16 c X) (s b : Dev nD) (r k : Fin 64) :
    xrow (F := Ideal) m ρ s b (ix2 r k) = X (ix2 (at64 b r) (at64 s k)) := by
  unfold xrow lV k0_pay1
  simp only [shapeCast_self]
  show m ((s.tc : Thread nD τ).loc main_arg0) _ = _
  rw [hX s]
  refine congrArg X (funext fun a => Fin.ext ?_)
  match a with
  | ⟨0, _⟩ => show 0 * 1024 + 1 * (64 * b.val + 1 * r.val) = 64 * b.val + r.val; omega
  | ⟨1, _⟩ => show s.val * 64 + (0 * 64 + 1 * (0 + 1 * k.val)) = 64 * s.val + k.val; omega

/-- The rows that meet it, as places of `w_mat`. -/
theorem wrow_at (hY : ∀ c : Dev nD, m ((c.tc : Thread nD τ).loc main_arg1) = Y) (c s : Dev nD) (k : Fin 64) (j : Fin 1024) :
    wrow (F := Ideal) m ρ c s (ix2 k j) = Y (ix2 (at64 s k) j) := by
  unfold wrow vV k0_pay2
  simp only [shapeCast_self]
  show m ((c.tc : Thread nD τ).loc main_arg1) _ = _
  rw [hY c]
  refine congrArg Y (funext fun a => Fin.ext ?_)
  match a with
  | ⟨0, _⟩ => show 0 * 1024 + 1 * (64 * s.val + 1 * k.val) = 64 * s.val + k.val; omega
  | ⟨1, _⟩ => show 0 * 1024 + 1 * (0 + 1 * j.val) = j.val; omega

/-! ## The sum over the devices -/

/-- A block's product is a plain matrix product. -/
theorem dims_plain : dot_S64x64_S64x1024_S64x1024_1_0_0_1_n_n = DotDims.plain 64 64 1024 := rfl

/-- Device `s`'s share of the product at a place: the part of the contraction over its 64 columns of `x`. -/
theorem prod_at (hX : ∀ c : Dev nD, m ((c.tc : Thread nD τ).loc main_arg0) = Layout.block ⟨2, ![1024, 64]⟩ Whole 1 16 c X)
    (hY : ∀ c : Dev nD, m ((c.tc : Thread nD τ).loc main_arg1) = Y) (c s : Dev nD) (r : Fin 64) (j : Fin 1024) :
    prod (F := Ideal) m ρ c s (ix2 r j) = ∑ k : Fin 64, X (ix2 (at64 c r) (at64 s k)) * Y (ix2 (at64 s k) j) := by
  unfold prod k0_pay3
  rw [dims_plain]
  show FloatOps.matmul (F := Ideal) (φ₁ := .bf16) (φ₂ := .bf16) (DotDims.plain 64 64 1024) none (xrow (F := Ideal) m ρ s c) (wrow (F := Ideal) m ρ c s) (constant _ .f32 0x00000000#32) (ix2 r j) = _
  rw [Ideal.matmul_plain_apply]
  show Ideal.ofBits .f32 0x00000000#32 + _ = _
  rw [Ideal.ofBits_zero_f32, zero_add]
  exact Finset.sum_congr rfl fun k _ => by rw [xrow_at m ρ X hX, wrow_at m ρ Y hY]

/-- The running sum at a place, as a sum over the steps taken. -/
theorem acc_at (c : Dev nD) (i : S64x1024.Idx) : ∀ n : ℕ,
    acc (F := Ideal) m ρ c n i = (prod m ρ c c i : EReal) + ∑ t ∈ Finset.range n, (prod m ρ c (srcN c t) i : EReal)
  | 0 => by rw [Finset.sum_range_zero, add_zero]; rfl
  | n + 1 => by
    show (acc (F := Ideal) m ρ c n i : EReal) + (prod m ρ c (srcN c n) i : EReal) = _
    rw [acc_at c i n, Finset.sum_range_succ, add_assoc]

/-- All steps taken, it is the sum over all devices. -/
theorem acc_all (c : Dev nD) (i : S64x1024.Idx) :
    acc (F := Ideal) m ρ c 15 i = ∑ s : Dev nD, (prod m ρ c s i : EReal) := by
  rw [acc_at, Finset.sum_range, ← Finset.add_sum_erase Finset.univ _ (Finset.mem_univ c), ← Finset.filter_ne', ← peers_src c, Finset.sum_map]
  rfl

/-- A sum over 1024 places, block by block. -/
theorem sum_blocks (f : Fin 1024 → EReal) : ∑ K : Fin 1024, f K = ∑ s : Dev nD, ∑ k : Fin 64, f (at64 s k) := by
  rw [← Fintype.sum_prod_type', ← Equiv.sum_comp (finProdFinEquiv (m := 16) (n := 64)) f]
  exact Finset.sum_congr rfl fun p _ => congrArg f (Fin.ext (by show p.2.val + 64 * p.1.val = 64 * p.1.val + p.2.val; omega))

/-! ## The result -/

/-- The gelu, with the constants as the two programs spell them. -/
def curve (y : EReal) : EReal :=
  Ideal.ofBits .f32 0x3F000000#32 * y
    * (Ideal.ofBits .f32 0x3F800000#32 + Ideal.tanh (Ideal.ofBits .f32 0x3F4C422A#32 * (y + Ideal.ofBits .f32 0x3D372713#32 * (y * (y * y)))))

/-- The whole result: the gelu of the whole product. -/
def whole (i : Shape.Idx Whole) : EReal := curve (∑ K : Fin 1024, X (ix2 (i 0) K) * Y (ix2 K (i 1)))

/-- The stored value is the gelu of the last sum. -/
theorem pay_curve (a : FVec Ideal S64x1024 .f32) (x : Vec Ideal S64x64 .bf16) (w : Vec Ideal S64x1024 .bf16) (i : S64x1024.Idx) :
    k0_pay12 a x w i = curve (addf a (k0_pay3 x w) i) := by
  unfold k0_pay12 k0_pay3
  dsimp only
  generalize matmul (F := Ideal) _ _ x w _ = M
  rfl

/-- So is the device's result, of the running sum. -/
theorem outV_curve (c : Dev nD) (i : S64x1024.Idx) : outV (F := Ideal) m ρ c i = curve (acc (F := Ideal) m ρ c 15 i) := by
  unfold outV
  rw [pay_curve, acc]
  rfl

/-- The device's result, as the whole result at its rows. -/
theorem outV_at (hX : ∀ c : Dev nD, m ((c.tc : Thread nD τ).loc main_arg0) = Layout.block ⟨2, ![1024, 64]⟩ Whole 1 16 c X)
    (hY : ∀ c : Dev nD, m ((c.tc : Thread nD τ).loc main_arg1) = Y) (c : Dev nD) (r : Fin 64) (j : Fin 1024) :
    outV (F := Ideal) m ρ c (ix2 r j) = whole X Y (ix2 (at64 c r) j) := by
  rw [outV_curve, acc_all]
  unfold whole
  rw [sum_blocks]
  exact congrArg curve (Finset.sum_congr rfl fun s _ => prod_at m ρ X Y hX hY c s r j)

/-- What the kernel leaves in its result array. -/
theorem finalA_out (c : Dev nD) : finalA (F := Ideal) m ρ c (2 : Fin 3) = outV (F := Ideal) m ρ c := by
  unfold finalA
  rw [show cfg0.N = (t0_0 : Fin cfg0.N).val + 1 from rfl, (dats m ρ 0 c).arrAt_succ (2 : Fin 3) t0_0, flush0_2 t0_0, if_pos rfl]
  refine funext fun i => ?_
  have e : (win0_2.blk t0_0).view.emb i = i := funext fun a => Fin.ext (by
    match a with
    | ⟨0, _⟩ => show 0 * 64 + 1 * (i 0).val = (i 0).val; omega
    | ⟨1, _⟩ => show 0 * 1024 + 1 * (i 1).val = (i 1).val; omega)
  exact (congrArg _ e.symm).trans (View.write_emb_of_mem (v := (win0_2.blk t0_0).view) _ _ (Finset.mem_univ i))

/-- A device's result is its rows of the whole result. -/
theorem result_block (hX : ∀ c : Dev nD, m ((c.tc : Thread nD τ).loc main_arg0) = Layout.block ⟨2, ![1024, 64]⟩ Whole 1 16 c X)
    (hY : ∀ c : Dev nD, m ((c.tc : Thread nD τ).loc main_arg1) = Y) (c : Dev nD) :
    finalA (F := Ideal) m ρ c (2 : Fin 3) = Layout.block ⟨2, ![64, 1024]⟩ Whole 0 16 c (whole X Y) := by
  rw [finalA_out]
  refine funext fun i => ?_
  rw [eq_ix2 i]
  refine (outV_at m ρ X Y hX hY c (i 0) (i 1)).trans (congrArg (whole X Y) (funext fun a => Fin.ext ?_))
  match a with
  | ⟨0, _⟩ => show 64 * c.val + (i 0).val = c.val * 64 + (i 0).val; omega
  | ⟨1, _⟩ => rfl

end Cert.KernelIdeal.Mesh
-- ==== Proof.Reference.lean ====
/-
The reference's result, element by element, over exact arithmetic: the gelu of the whole product, as the kernel's.
-/
module

public import proofs.«01_k».proof.Proof.KernelIdeal.Value

@[expose] public section

set_option maxRecDepth 65536

noncomputable section

namespace Cert.ReferenceIdeal.Plain

open Cert.ReferenceIdeal Cert.ReferenceIdeal.Gen
open Idealize.ShloMosaic Idealize.ShloMosaic.ValueIdx
open Cert.KernelIdeal.Mesh (curve whole Whole)

variable (X Y : Shape.Idx Whole → EReal)

/-- The reference contracts as a plain matrix product does. -/
theorem reference_dims : dot_S1024x1024_S1024x1024_S1024x1024_1_0_0_1_n_n = DotDims.plain 1024 1024 1024 := rfl

/-- The gelu as the reference spells it. -/
theorem curve_cube (y : EReal) :
    Ideal.ofBits .f32 0x3F000000#32 * y
      * (Ideal.ofBits .f32 0x3F800000#32 + Ideal.tanh (Ideal.ofBits .f32 0x3F4C422A#32 * (y + Ideal.ofBits .f32 0x3D372713#32 * (y * y * y)))) = curve y := by
  unfold curve; rw [mul_comm (y * y) y]

/-- Each element of the product is a row times a column. -/
theorem reference_dot (i : Shape.Idx Whole) :
    Host.dotGeneral (F := Ideal) (φ₁ := .bf16) (φ₂ := .bf16) dot_S1024x1024_S1024x1024_S1024x1024_1_0_0_1_n_n none X Y i
      = ∑ K : Fin 1024, X (ix2 (i 0) K) * Y (ix2 K (i 1)) := by
  rw [reference_dims]
  conv_lhs => rw [eq_ix2 i]
  exact StackMember.dotGeneral_plain_apply none X Y (i 0) (i 1)

/-- What the reference computes of its product `D`. -/
def gelu (D : FVec Ideal S1024x1024 .f32) : FVec Ideal S1024x1024 .f32 :=
  mulf (mulf (broadcastInDim S1024x1024 ![] bcast_S_S1024x1024 (constant S_ .f32 0x3F000000#32)) D) (addf (broadcastInDim S1024x1024 ![] bcast_S_S1024x1024 (constant S_ .f32 0x3F800000#32)) (Host.tanh (mulf (broadcastInDim S1024x1024 ![] bcast_S_S1024x1024 (constant S_ .f32 0x3F4C422A#32)) (addf D (mulf (broadcastInDim S1024x1024 ![] bcast_S_S1024x1024 (constant S_ .f32 0x3D372713#32)) (mulf (mulf D D) D))))))

/-- Element by element it is the scalar gelu. -/
theorem gelu_at (D : FVec Ideal S1024x1024 .f32) (i : S1024x1024.Idx) : gelu D i = curve (D i) := by
  rw [← curve_cube]; rfl

/-- The reference's result is the gelu of the whole product: its casts change nothing over exact arithmetic. -/
theorem reference_whole :
    gelu (extf .f32 (truncf .bf16 (Host.dotGeneral (F := Ideal) (φ₁ := .bf16) (φ₂ := .bf16) dot_S1024x1024_S1024x1024_S1024x1024_1_0_0_1_n_n none X Y) bitsLt_bf16_f32) bitsLt_bf16_f32) = whole X Y :=
  funext fun i => (gelu_at _ i).trans (congrArg curve (reference_dot X Y i))

end Cert.ReferenceIdeal.Plain
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Kernel.Launch
public import proofs.«01_k».proof.Proof.Reference
public import Idealize.ShloMosaic.Adequacy
public import Idealize.ShloMosaic.Init

@[expose] public section

noncomputable section

namespace Cert.Proof

open Idealize.ShloMosaic Idealize.SL.Sem

theorem frame_kernel : Cert.quiescent_Kernel := fun m ρ _ =>
  (θ_run Cert.Kernel.defs _ _).mono
    (fun _ h => ⟨fun c => ⟨(h.1 c 0).trans (Cert.Kernel.Mesh.finalA_x m ρ c), (h.1 c 1).trans (Cert.Kernel.Mesh.finalA_w m ρ c)⟩, h.2⟩)
    (Cert.Kernel.Mesh.run_main (F := Bits) m ρ)

theorem frame_kernelIdeal : Cert.quiescent_KernelIdeal := fun m ρ _ =>
  (θ_run Cert.KernelIdeal.defs _ _).mono
    (fun _ h => ⟨fun c => ⟨(h.1 c 0).trans (Cert.KernelIdeal.Mesh.finalA_x m ρ c), (h.1 c 1).trans (Cert.KernelIdeal.Mesh.finalA_w m ρ c)⟩, h.2⟩)
    (Cert.KernelIdeal.Mesh.run_main (F := Ideal) m ρ)

theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel, every device's rows, against the plain product and its gelu on one device. -/
theorem value_kernel : Cert.algebraic_KernelIdeal_ReferenceIdeal := by
  intro m ρ m' ρ' _ hagree
  refine ⟨Cert.KernelIdeal.Mesh.whole (m' (((0 : Dev Cert.ReferenceIdeal.nD).tc : Thread _ Cert.ReferenceIdeal.τ).loc Cert.ReferenceIdeal.main_arg0))
    (m' (((0 : Dev Cert.ReferenceIdeal.nD).tc : Thread _ Cert.ReferenceIdeal.τ).loc Cert.ReferenceIdeal.main_arg1)), ?_, ?_⟩
  · exact (θ_run Cert.KernelIdeal.defs _ _).mono
      (fun _ h c => ⟨(h.1 c 2).trans (Cert.KernelIdeal.Mesh.result_block m ρ _ _ (fun c => (hagree c).1) (fun c => (hagree c).2) c),
        (h.1 c 0).trans (Cert.KernelIdeal.Mesh.finalA_x m ρ c), (h.1 c 1).trans (Cert.KernelIdeal.Mesh.finalA_w m ρ c)⟩)
      (Cert.KernelIdeal.Mesh.run_main (F := Ideal) m ρ)
  · exact (θ_run Cert.ReferenceIdeal.defs _ _).mono
      (fun _ h => ⟨(h 0).1.trans (Cert.ReferenceIdeal.Plain.reference_whole _ _), (h 0).2⟩)
      (Cert.ReferenceIdeal.Value.run (F := Ideal) m' ρ')

theorem claim : Cert.Claim := ⟨Cert.Kernel.Gen.facts, Cert.KernelIdeal.Gen.facts, Cert.ReferenceIdeal.Gen.facts,
  frame_kernel, frame_kernelIdeal, frame_referenceIdeal, trivial, value_kernel⟩

end Cert.Proof

end
